-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "neg" .f32 0xFE967699#32 ⊥
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S512x32x1280 : Shape := ⟨3, ![512, 32, 1280]⟩
abbrev S32x256 : Shape := ⟨2, ![32, 256]⟩
abbrev S32 : Shape := ⟨1, ![32]⟩
abbrev S_ : Shape := ⟨0, ![]⟩

class Facts : Prop where
  bcast_S_S512x32x1280 : S_.BroadcastsInDim S512x32x1280 (![] : Fin 0 → Fin S512x32x1280.rank)
  bcast_S_S32x256 : S_.BroadcastsInDim S32x256 (![] : Fin 0 → Fin S32x256.rank)
  bcast_S_S32 : S_.BroadcastsInDim S32 (![] : Fin 0 → Fin S32.rank)

variable [Facts]

def fn {F : FTy → Type} [FloatOps F] (main_arg0 : FVec F S512x32x1280 .f32) (main_arg1 : IVec S32x256 32) (main_arg2 : IVec S32 32) : IVec S512x32x1280 1 × IVec S32x256 1 × IVec S32 1 :=
  let main_v0 : FVec F S512x32x1280 .f32 := Host.absf main_arg0
  let main_cst : FVec F S_ .f32 := constant S_ .f32 0x7F800000#32
  let main_v1 : FVec F S512x32x1280 .f32 := broadcastInDim S512x32x1280 ![] bcast_S_S512x32x1280 main_cst
  let main_v2 : IVec S512x32x1280 1 := cmpf .olt main_v0 main_v1
  let main_c : IVec S_ 32 := constantI S_ 32 0#32
  let main_v3 : IVec S32x256 32 := broadcastInDim S32x256 ![] bcast_S_S32x256 main_c
  let main_v4 : IVec S32x256 1 := cmpi .sge main_arg1 main_v3
  let main_c_0 : IVec S_ 32 := constantI S_ 32 5#32
  let main_v5 : IVec S32x256 32 := broadcastInDim S32x256 ![] bcast_S_S32x256 main_c_0
  let main_v6 : IVec S32x256 1 := cmpi .slt main_arg1 main_v5
  let main_v7 : IVec S32x256 1 := andi main_v4 main_v6
  let main_c_1 : IVec S_ 32 := constantI S_ 32 64#32
  let main_v8 : IVec S32 32 := broadcastInDim S32 ![] bcast_S_S32 main_c_1
  let main_v9 : IVec S32 1 := cmpi .sge main_arg2 main_v8
  let main_c_2 : IVec S_ 32 := constantI S_ 32 256#32
  let main_v10 : IVec S32 32 := broadcastInDim S32 ![] bcast_S_S32 main_c_2
  let main_v11 : IVec S32 1 := cmpi .sle main_arg2 main_v10
  let main_v12 : IVec S32 1 := andi main_v9 main_v11
  (main_v2, main_v7, main_v12)
-- ==== Kernel.lean ====
abbrev S512x32x1280 : Shape := ⟨3, ![512, 32, 1280]⟩
abbrev S32x256 : Shape := ⟨2, ![32, 256]⟩
abbrev S32 : Shape := ⟨1, ![32]⟩
abbrev S_ : Shape := ⟨0, ![]⟩
abbrev S32x253 : Shape := ⟨2, ![32, 253]⟩
abbrev S32x3 : Shape := ⟨2, ![32, 3]⟩
abbrev S32x1 : Shape := ⟨2, ![32, 1]⟩
abbrev S32x252 : Shape := ⟨2, ![32, 252]⟩
abbrev S512x32x256x5 : Shape := ⟨4, ![512, 32, 256, 5]⟩
abbrev S512x5x32x256 : Shape := ⟨4, ![512, 5, 32, 256]⟩
abbrev S8x128 : Shape := ⟨2, ![8, 128]⟩
abbrev S32x5x32x256 : Shape := ⟨4, ![32, 5, 32, 256]⟩
abbrev S1x1x32x256 : Shape := ⟨4, ![1, 1, 32, 256]⟩
abbrev S32x128 : Shape := ⟨2, ![32, 128]⟩
abbrev S32x128x1 : Shape := ⟨3, ![32, 128, 1]⟩
abbrev S1x32x1 : Shape := ⟨3, ![1, 32, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 63
  | .vmem => 12
  | .smem => 0
  | _ => 0

abbrev bufTy : (tb : Table) → Fin (tcTables nBuf tb) → BufTy
  | .hbm, ⟨0, _⟩ => ⟨S512x32x1280, .f32⟩
  | .hbm, ⟨1, _⟩ => ⟨S32x256, .i32⟩
  | .hbm, ⟨2, _⟩ => ⟨S32, .i32⟩
  | .hbm, ⟨3, _⟩ => ⟨S_, .i32⟩
  | .hbm, ⟨4, _⟩ => ⟨S32x256, .i32⟩
  | .hbm, ⟨5, _⟩ => ⟨S32x256, .i32⟩
  | .hbm, ⟨6, _⟩ => ⟨S_, .i32⟩
  | .hbm, ⟨7, _⟩ => ⟨S_, .i32⟩
  | .hbm, ⟨8, _⟩ => ⟨S32x256, .i32⟩
  | .hbm, ⟨9, _⟩ => ⟨S32x256, .i32⟩
  | .hbm, ⟨10, _⟩ => ⟨S32x253, .i32⟩
  | .hbm, ⟨11, _⟩ => ⟨S_, .i32⟩
  | .hbm, ⟨12, _⟩ => ⟨S32x253, .i32⟩
  | .hbm, ⟨13, _⟩ => ⟨S32x253, .i32⟩
  | .hbm, ⟨14, _⟩ => ⟨S_, .i32⟩
  | .hbm, ⟨15, _⟩ => ⟨S32x253, .i32⟩
  | .hbm, ⟨16, _⟩ => ⟨S32x253, .i32⟩
  | .hbm, ⟨17, _⟩ => ⟨S32x253, .i32⟩
  | .hbm, ⟨18, _⟩ => ⟨S_, .i32⟩
  | .hbm, ⟨19, _⟩ => ⟨S32x253, .i32⟩
  | .hbm, ⟨20, _⟩ => ⟨S32x253, .i32⟩
  | .hbm, ⟨21, _⟩ => ⟨S32x253, .i32⟩
  | .hbm, ⟨22, _⟩ => ⟨S32x253, .i32⟩
  | .hbm, ⟨23, _⟩ => ⟨S_, .i32⟩
  | .hbm, ⟨24, _⟩ => ⟨S32x253, .i32⟩
  | .hbm, ⟨25, _⟩ => ⟨S32x253, .i32⟩
  | .hbm, ⟨26, _⟩ => ⟨S32x253, .i32⟩
  | .hbm, ⟨27, _⟩ => ⟨S32x253, .i32⟩
  | .hbm, ⟨28, _⟩ => ⟨S_, .i32⟩
  | .hbm, ⟨29, _⟩ => ⟨S32x253, .i32⟩
  | .hbm, ⟨30, _⟩ => ⟨S32x253, .i32⟩
  | .hbm, ⟨31, _⟩ => ⟨S32x253, .i32⟩
  | .hbm, ⟨32, _⟩ => ⟨S_, .i32⟩
  | .hbm, ⟨33, _⟩ => ⟨S32x3, .i32⟩
  | .hbm, ⟨34, _⟩ => ⟨S32x256, .i32⟩
  | .hbm, ⟨35, _⟩ => ⟨S_, .i32⟩
  | .hbm, ⟨36, _⟩ => ⟨S32x1, .i32⟩
  | .hbm, ⟨37, _⟩ => ⟨S32x252, .i32⟩
  | .hbm, ⟨38, _⟩ => ⟨S_, .i32⟩
  | .hbm, ⟨39, _⟩ => ⟨S32x252, .i32⟩
  | .hbm, ⟨40, _⟩ => ⟨S32x252, .i32⟩
  | .hbm, ⟨41, _⟩ => ⟨S_, .i32⟩
  | .hbm, ⟨42, _⟩ => ⟨S32x3, .i32⟩
  | .hbm, ⟨43, _⟩ => ⟨S32x256, .i32⟩
  | .hbm, ⟨44, _⟩ => ⟨S_, .i32⟩
  | .hbm, ⟨45, _⟩ => ⟨S32, .i32⟩
  | .hbm, ⟨46, _⟩ => ⟨S32, .i32⟩
  | .hbm, ⟨47, _⟩ => ⟨S_, .i32⟩
  | .hbm, ⟨48, _⟩ => ⟨S32, .i32⟩
  | .hbm, ⟨49, _⟩ => ⟨S32, .i32⟩
  | .hbm, ⟨50, _⟩ => ⟨S32x1, .i32⟩
  | .hbm, ⟨51, _⟩ => ⟨S512x32x1280, .bf16⟩
  | .hbm, ⟨52, _⟩ => ⟨S512x32x256x5, .bf16⟩
  | .hbm, ⟨53, _⟩ => ⟨S512x5x32x256, .bf16⟩
  | .hbm, ⟨54, _⟩ => ⟨S_, .f32⟩
  | .hbm, ⟨55, _⟩ => ⟨S32x256, .f32⟩
  | .hbm, ⟨56, _⟩ => ⟨S_, .f32⟩
  | .hbm, ⟨57, _⟩ => ⟨S32x256, .f32⟩
  | .hbm, ⟨58, _⟩ => ⟨S32x256, .f32⟩
  | .hbm, ⟨59, _⟩ => ⟨S32x256, .f32⟩
  | .hbm, ⟨60, _⟩ => ⟨S8x128, .f32⟩
  | .hbm, ⟨61, _⟩ => ⟨S1x1, .f32⟩
  | .hbm, ⟨62, _⟩ => ⟨S_, .f32⟩
  | .local _ .vmem, ⟨0, _⟩ => ⟨S32x1, .i32⟩
  | .local _ .vmem, ⟨1, _⟩ => ⟨S32x256, .i32⟩
  | .local _ .vmem, ⟨2, _⟩ => ⟨S32x256, .i32⟩
  | .local _ .vmem, ⟨3, _⟩ => ⟨S32x256, .f32⟩
  | .local _ .vmem, ⟨4, _⟩ => ⟨S32x256, .f32⟩
  | .local _ .vmem, ⟨5, _⟩ => ⟨S32x5x32x256, .bf16⟩
  | .local _ .vmem, ⟨6, _⟩ => ⟨S32x5x32x256, .bf16⟩
  | .local _ .vmem, ⟨7, _⟩ => ⟨S32x256, .f32⟩
  | .local _ .vmem, ⟨8, _⟩ => ⟨S32x256, .f32⟩
  | .local _ .vmem, ⟨9, _⟩ => ⟨S8x128, .f32⟩
  | .local _ .vmem, ⟨10, _⟩ => ⟨S32x256, .f32⟩
  | .local _ .vmem, ⟨11, _⟩ => ⟨S32x256, .f32⟩
  | _, _ => ⟨S512x32x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_c_8 : Ref sig .tc := ⟨.hbm, 38, rfl⟩
abbrev main_v24 : Ref sig .tc := ⟨.hbm, 39, rfl⟩
abbrev main_v25 : Ref sig .tc := ⟨.hbm, 40, rfl⟩
abbrev main_c_9 : Ref sig .tc := ⟨.hbm, 41, rfl⟩
abbrev main_v26 : Ref sig .tc := ⟨.hbm, 42, rfl⟩
abbrev main_v27 : Ref sig .tc := ⟨.hbm, 43, rfl⟩
abbrev main_c_10 : Ref sig .tc := ⟨.hbm, 44, rfl⟩
abbrev main_v28 : Ref sig .tc := ⟨.hbm, 45, rfl⟩
abbrev main_v29 : Ref sig .tc := ⟨.hbm, 46, rfl⟩
abbrev main_c_11 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev main_v38_2 : Ref sig .tc := ⟨.hbm, 60, rfl⟩
abbrev main_v39 : Ref sig .tc := ⟨.hbm, 61, rfl⟩
abbrev main_v40 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v12917 : BitVec 1 := Scalar.cmpi .eq arg0 c15_i32
  let v12918 : BitVec 32 := Scalar.extui v12917
  let c0_i32_3558 : BitVec 32 := 0#32
  let v12919 : BitVec 1 := Scalar.cmpi .ne v12918 c0_i32_3558
  v12919

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x5x32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "neg" => some ⊥
  | _ => none
-- ==== ReferenceIdeal.lean ====
abbrev S512x32x1280 : Shape := ⟨3, ![512, 32, 1280]⟩
abbrev S32x256 : Shape := ⟨2, ![32, 256]⟩
abbrev S32 : Shape := ⟨1, ![32]⟩
abbrev S256x5 : Shape := ⟨2, ![256, 5]⟩
abbrev S512x32x256x5 : Shape := ⟨4, ![512, 32, 256, 5]⟩
abbrev S_ : Shape := ⟨0, ![]⟩
abbrev S1x32x256x5 : Shape := ⟨4, ![1, 32, 256, 5]⟩
abbrev S32x256x5 : Shape := ⟨3, ![32, 256, 5]⟩
abbrev S256x5x1 : Shape := ⟨3, ![256, 5, 1]⟩
abbrev S32x256x1 : Shape := ⟨3, ![32, 256, 1]⟩
abbrev S32x1 : Shape := ⟨2, ![32, 1]⟩
abbrev S1x32x1 : Shape := ⟨3, ![1, 32, 1]⟩
abbrev S32x253 : Shape := ⟨2, ![32, 253]⟩
abbrev S32x252 : Shape := ⟨2, ![32, 252]⟩
abbrev S1x32x253 : Shape := ⟨3, ![1, 32, 253]⟩
abbrev S512x32x253 : Shape := ⟨3, ![512, 32, 253]⟩
abbrev S512x32x253x1 : Shape := ⟨4, ![512, 32, 253, 1]⟩
abbrev S1 : Shape := ⟨1, ![1]⟩
abbrev S1x1x1x1 : Shape := ⟨4, ![1, 1, 1, 1]⟩
abbrev S1x32x252 : Shape := ⟨3, ![1, 32, 252]⟩
abbrev S512x32x252 : Shape := ⟨3, ![512, 32, 252]⟩
abbrev S512x32x252x1 : Shape := ⟨4, ![512, 32, 252, 1]⟩
abbrev S32x1x1 : Shape := ⟨3, ![32, 1, 1]⟩
abbrev S1x1x1 : Shape := ⟨3, ![1, 1, 1]⟩

abbrev nBuf : Space → Nat
  | .hbm => 241
  | .vmem => 0
  | .smem => 0
  | _ => 0

abbrev hbmTy0_0 (i : Nat) : BufTy := match i % 128 with
  | 0 => ⟨S512x32x1280, .f32⟩
  | 1 => ⟨S32x256, .i32⟩
  | 2 => ⟨S32, .i32⟩
  | 3 => ⟨S256x5, .i32⟩
  | 4 => ⟨S512x32x256x5, .f32⟩
  | 5 => ⟨S_, .f32⟩
  | 6 => ⟨S32x256, .f32⟩
  | 7 => ⟨S_, .i32⟩
  | 8 => ⟨S512x32x256x5, .f32⟩
  | 9 => ⟨S256x5, .i32⟩
  | 10 => ⟨S_, .i32⟩
  | 11 => ⟨S32x256, .f32⟩
  | 12 => ⟨S_, .i32⟩
  | 13 => ⟨S_, .i1⟩
  | 14 => ⟨S_, .i32⟩
  | 15 => ⟨S_, .i32⟩
  | 16 => ⟨S_, .i32⟩
  | 17 => ⟨S1x32x256x5, .f32⟩
  | 18 => ⟨S32x256x5, .f32⟩
  | 19 => ⟨S_, .i32⟩
  | 20 => ⟨S256x5, .i32⟩
  | 21 => ⟨S256x5, .i1⟩
  | 22 => ⟨S_, .i32⟩
  | 23 => ⟨S256x5, .i32⟩
  | 24 => ⟨S256x5, .i32⟩
  | 25 => ⟨S256x5, .i32⟩
  | 26 => ⟨S256x5x1, .i32⟩
  | 27 => ⟨S32x256x5, .f32⟩
  | 28 => ⟨S32x256x5, .f32⟩
  | 29 => ⟨S_, .f32⟩
  | 30 => ⟨S32x256, .f32⟩
  | 31 => ⟨S32x256, .f32⟩
  | 32 => ⟨S_, .f32⟩
  | 33 => ⟨S32x256, .f32⟩
  | 34 => ⟨S32x256, .i1⟩
  | 35 => ⟨S_, .f32⟩
  | 36 => ⟨S32x256, .f32⟩
  | 37 => ⟨S32x256, .f32⟩
  | 38 => ⟨S32x256x1, .f32⟩
  | 39 => ⟨S32x256x5, .f32⟩
  | 40 => ⟨S32x256x5, .f32⟩
  | 41 => ⟨S32x256x5, .f32⟩
  | 42 => ⟨S_, .f32⟩
  | 43 => ⟨S32x256, .f32⟩
  | 44 => ⟨S32x256, .f32⟩
  | 45 => ⟨S32x256, .f32⟩
  | 46 => ⟨S_, .i32⟩
  | 47 => ⟨S_, .i32⟩
  | 48 => ⟨S_, .f32⟩
  | 49 => ⟨S32, .f32⟩
  | 50 => ⟨S32, .f32⟩
  | 51 => ⟨S_, .f32⟩
  | 52 => ⟨S32, .f32⟩
  | 53 => ⟨S32, .i1⟩
  | 54 => ⟨S_, .f32⟩
  | 55 => ⟨S32, .f32⟩
  | 56 => ⟨S32, .f32⟩
  | 57 => ⟨S32x1, .f32⟩
  | 58 => ⟨S32x256, .f32⟩
  | 59 => ⟨S32x256, .f32⟩
  | 60 => ⟨S32x256, .f32⟩
  | 61 => ⟨S_, .f32⟩
  | 62 => ⟨S32, .f32⟩
  | 63 => ⟨S32, .f32⟩
  | 64 => ⟨S32, .f32⟩
  | 65 => ⟨S32x1, .f32⟩
  | 66 => ⟨S_, .f32⟩
  | 67 => ⟨S32x1, .f32⟩
  | 68 => ⟨S32x1, .f32⟩
  | 69 => ⟨S1x32x1, .f32⟩
  | 70 => ⟨S512x32x1280, .f32⟩
  | 71 => ⟨S512x32x1280, .f32⟩
  | 72 => ⟨S_, .i32⟩
  | 73 => ⟨S32x256, .i32⟩
  | 74 => ⟨S32x256, .i32⟩
  | 75 => ⟨S_, .i32⟩
  | 76 => ⟨S_, .i32⟩
  | 77 => ⟨S32x256, .i32⟩
  | 78 => ⟨S32x256, .i32⟩
  | 79 => ⟨S32x253, .i32⟩
  | 80 => ⟨S_, .i32⟩
  | 81 => ⟨S32x253, .i32⟩
  | 82 => ⟨S32x253, .i32⟩
  | 83 => ⟨S_, .i32⟩
  | 84 => ⟨S32x253, .i32⟩
  | 85 => ⟨S32x253, .i32⟩
  | 86 => ⟨S32x253, .i32⟩
  | 87 => ⟨S_, .i32⟩
  | 88 => ⟨S32x253, .i32⟩
  | 89 => ⟨S32x253, .i32⟩
  | 90 => ⟨S32x253, .i32⟩
  | 91 => ⟨S32x253, .i32⟩
  | 92 => ⟨S_, .i32⟩
  | 93 => ⟨S32x253, .i32⟩
  | 94 => ⟨S32x253, .i32⟩
  | 95 => ⟨S32x253, .i32⟩
  | 96 => ⟨S32x253, .i32⟩
  | 97 => ⟨S_, .i32⟩
  | 98 => ⟨S32x253, .i32⟩
  | 99 => ⟨S32x253, .i32⟩
  | 100 => ⟨S32x253, .i32⟩
  | 101 => ⟨S_, .i32⟩
  | 102 => ⟨S32x253, .i32⟩
  | 103 => ⟨S32x253, .i32⟩
  | 104 => ⟨S32x252, .i32⟩
  | 105 => ⟨S32x252, .i32⟩
  | 106 => ⟨S32x252, .i32⟩
  | 107 => ⟨S_, .i32⟩
  | 108 => ⟨S32x252, .i32⟩
  | 109 => ⟨S32x252, .i32⟩
  | 110 => ⟨S1x32x253, .i32⟩
  | 111 => ⟨S512x32x253, .i32⟩
  | 112 => ⟨S_, .i32⟩
  | 113 => ⟨S512x32x253, .i32⟩
  | 114 => ⟨S512x32x253, .i1⟩
  | 115 => ⟨S_, .i32⟩
  | 116 => ⟨S512x32x253, .i32⟩
  | 117 => ⟨S512x32x253, .i32⟩
  | 118 => ⟨S512x32x253, .i32⟩
  | 119 => ⟨S512x32x253x1, .i32⟩
  | 120 => ⟨S1, .i32⟩
  | 121 => ⟨S_, .i32⟩
  | 122 => ⟨S512x32x253x1, .i32⟩
  | 123 => ⟨S512x32x253x1, .i1⟩
  | 124 => ⟨S1x1x1x1, .i32⟩
  | 125 => ⟨S512x32x253x1, .i32⟩
  | 126 => ⟨S512x32x253x1, .i1⟩
  | 127 => ⟨S512x32x253x1, .i1⟩
  | _ => ⟨S512x32x1280, .f32⟩

abbrev hbmTy0_1 (i : Nat) : BufTy := match i % 128 with
  | 0 => ⟨S_, .i1⟩
  | 1 => ⟨S512x32x253, .i1⟩
  | 2 => ⟨S512x32x253, .f32⟩
  | 3 => ⟨S_, .f32⟩
  | 4 => ⟨S512x32x253, .f32⟩
  | 5 => ⟨S512x32x253, .f32⟩
  | 6 => ⟨S1x32x252, .i32⟩
  | 7 => ⟨S512x32x252, .i32⟩
  | 8 => ⟨S_, .i32⟩
  | 9 => ⟨S512x32x252, .i32⟩
  | 10 => ⟨S512x32x252, .i1⟩
  | 11 => ⟨S_, .i32⟩
  | 12 => ⟨S512x32x252, .i32⟩
  | 13 => ⟨S512x32x252, .i32⟩
  | 14 => ⟨S512x32x252, .i32⟩
  | 15 => ⟨S512x32x252x1, .i32⟩
  | 16 => ⟨S1, .i32⟩
  | 17 => ⟨S_, .i32⟩
  | 18 => ⟨S512x32x252x1, .i32⟩
  | 19 => ⟨S512x32x252x1, .i1⟩
  | 20 => ⟨S1x1x1x1, .i32⟩
  | 21 => ⟨S512x32x252x1, .i32⟩
  | 22 => ⟨S512x32x252x1, .i1⟩
  | 23 => ⟨S512x32x252x1, .i1⟩
  | 24 => ⟨S_, .i1⟩
  | 25 => ⟨S512x32x252, .i1⟩
  | 26 => ⟨S512x32x252, .f32⟩
  | 27 => ⟨S_, .f32⟩
  | 28 => ⟨S512x32x252, .f32⟩
  | 29 => ⟨S512x32x252, .f32⟩
  | 30 => ⟨S_, .i32⟩
  | 31 => ⟨S32, .i32⟩
  | 32 => ⟨S32, .i32⟩
  | 33 => ⟨S_, .i32⟩
  | 34 => ⟨S32, .i32⟩
  | 35 => ⟨S32, .i32⟩
  | 36 => ⟨S_, .f32⟩
  | 37 => ⟨S32x253, .f32⟩
  | 38 => ⟨S_, .i32⟩
  | 39 => ⟨S1, .i32⟩
  | 40 => ⟨S_, .f32⟩
  | 41 => ⟨S32, .f32⟩
  | 42 => ⟨S32x253, .f32⟩
  | 43 => ⟨S_, .f32⟩
  | 44 => ⟨S_, .f32⟩
  | 45 => ⟨S512x32x253, .f32⟩
  | 46 => ⟨S_, .i32⟩
  | 47 => ⟨S512x32x253, .f32⟩
  | 48 => ⟨S512x32x253, .f32⟩
  | 49 => ⟨S_, .i32⟩
  | 50 => ⟨S32x253, .f32⟩
  | 51 => ⟨S_, .i32⟩
  | 52 => ⟨S_, .i1⟩
  | 53 => ⟨S_, .i32⟩
  | 54 => ⟨S_, .i32⟩
  | 55 => ⟨S1x32x253, .f32⟩
  | 56 => ⟨S32x253, .f32⟩
  | 57 => ⟨S_, .i32⟩
  | 58 => ⟨S_, .i32⟩
  | 59 => ⟨S1x32x253, .f32⟩
  | 60 => ⟨S32x253, .f32⟩
  | 61 => ⟨S32x252, .f32⟩
  | 62 => ⟨S_, .f32⟩
  | 63 => ⟨S_, .f32⟩
  | 64 => ⟨S32x253, .f32⟩
  | 65 => ⟨S32x253, .f32⟩
  | 66 => ⟨S32x253, .f32⟩
  | 67 => ⟨S32x253, .f32⟩
  | 68 => ⟨S32x253, .f32⟩
  | 69 => ⟨S32x253, .i1⟩
  | 70 => ⟨S32x253, .f32⟩
  | 71 => ⟨S32x253, .f32⟩
  | 72 => ⟨S32x253, .f32⟩
  | 73 => ⟨S32x253, .f32⟩
  | 74 => ⟨S32x253, .f32⟩
  | 75 => ⟨S32x253, .f32⟩
  | 76 => ⟨S32x253, .f32⟩
  | 77 => ⟨S_, .i32⟩
  | 78 => ⟨S_, .i32⟩
  | 79 => ⟨S_, .i32⟩
  | 80 => ⟨S32, .i32⟩
  | 81 => ⟨S32, .i32⟩
  | 82 => ⟨S32x1, .i32⟩
  | 83 => ⟨S_, .i32⟩
  | 84 => ⟨S32x1, .i32⟩
  | 85 => ⟨S32x1, .i1⟩
  | 86 => ⟨S_, .i32⟩
  | 87 => ⟨S32x1, .i32⟩
  | 88 => ⟨S32x1, .i32⟩
  | 89 => ⟨S32x1, .i32⟩
  | 90 => ⟨S32x1x1, .i32⟩
  | 91 => ⟨S1, .i32⟩
  | 92 => ⟨S_, .i32⟩
  | 93 => ⟨S32x1x1, .i32⟩
  | 94 => ⟨S32x1x1, .i1⟩
  | 95 => ⟨S1x1x1, .i32⟩
  | 96 => ⟨S32x1x1, .i32⟩
  | 97 => ⟨S32x1x1, .i1⟩
  | 98 => ⟨S32x1x1, .i1⟩
  | 99 => ⟨S_, .i1⟩
  | 100 => ⟨S32x1, .i1⟩
  | 101 => ⟨S32x1, .f32⟩
  | 102 => ⟨S_, .f32⟩
  | 103 => ⟨S32x1, .f32⟩
  | 104 => ⟨S32x1, .f32⟩
  | 105 => ⟨S32, .f32⟩
  | 106 => ⟨S32, .f32⟩
  | 107 => ⟨S32, .f32⟩
  | 108 => ⟨S32, .f32⟩
  | 109 => ⟨S_, .f32⟩
  | 110 => ⟨S_, .f32⟩
  | 111 => ⟨S_, .f32⟩
  | 112 => ⟨S_, .f32⟩
  | _ => ⟨S512x32x1280, .f32⟩

abbrev hbmTy (i : Nat) : BufTy := match i / 128 with
  | 0 => hbmTy0_0 i
  | 1 => hbmTy0_1 i
  | _ => ⟨S512x32x1280, .f32⟩

abbrev bufTy : (tb : Table) → Fin (tcTables nBuf tb) → BufTy
  | .hbm, ⟨i, _⟩ => hbmTy i
  | _, _ => ⟨S512x32x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c_0 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_while0c_c_28 : Ref sig .tc := ⟨.hbm, 12, rfl⟩
abbrev main_while0c_v75 : Ref sig .tc := ⟨.hbm, 13, rfl⟩
abbrev main_while0b_call0_c : Ref sig .tc := ⟨.hbm, 14, rfl⟩
abbrev main_while0b_call0_c_0 : Ref sig .tc := ⟨.hbm, 15, rfl⟩
abbrev main_while0b_call0_c_1 : Ref sig .tc := ⟨.hbm, 16, rfl⟩
abbrev main_while0b_call0_v0 : Ref sig .tc := ⟨.hbm, 17, rfl⟩
abbrev main_while0b_v75 : Ref sig .tc := ⟨.hbm, 18, rfl⟩
abbrev main_while0b_c_28 : Ref sig .tc := ⟨.hbm, 19, rfl⟩
abbrev main_while0b_v76 : Ref sig .tc := ⟨.hbm, 20, rfl⟩
abbrev main_while0b_v77 : Ref sig .tc := ⟨.hbm, 21, rfl⟩
abbrev main_while0b_c_29 : Ref sig .tc := ⟨.hbm, 22, rfl⟩
abbrev main_while0b_v78 : Ref sig .tc := ⟨.hbm, 23, rfl⟩
abbrev main_while0b_v79 : Ref sig .tc := ⟨.hbm, 24, rfl⟩
abbrev main_while0b_v80 : Ref sig .tc := ⟨.hbm, 25, rfl⟩
abbrev main_while0b_v81 : Ref sig .tc := ⟨.hbm, 26, rfl⟩
abbrev main_while0b_v82 : Ref sig .tc := ⟨.hbm, 27, rfl⟩
abbrev main_while0b_v83 : Ref sig .tc := ⟨.hbm, 28, rfl⟩
abbrev main_while0b_cst_30 : Ref sig .tc := ⟨.hbm, 29, rfl⟩
abbrev main_while0b_v84 : Ref sig .tc := ⟨.hbm, 30, rfl⟩
abbrev main_while0b_v85 : Ref sig .tc := ⟨.hbm, 31, rfl⟩
abbrev main_while0b_cst_31 : Ref sig .tc := ⟨.hbm, 32, rfl⟩
abbrev main_while0b_v86 : Ref sig .tc := ⟨.hbm, 33, rfl⟩
abbrev main_while0b_v87 : Ref sig .tc := ⟨.hbm, 34, rfl⟩
abbrev main_while0b_cst_32 : Ref sig .tc := ⟨.hbm, 35, rfl⟩
abbrev main_while0b_v88 : Ref sig .tc := ⟨.hbm, 36, rfl⟩
abbrev main_while0b_v89 : Ref sig .tc := ⟨.hbm, 37, rfl⟩
abbrev main_while0b_v90 : Ref sig .tc := ⟨.hbm, 38, rfl⟩
abbrev main_while0b_v91 : Ref sig .tc := ⟨.hbm, 39, rfl⟩
abbrev main_while0b_v92 : Ref sig .tc := ⟨.hbm, 40, rfl⟩
abbrev main_while0b_v93 : Ref sig .tc := ⟨.hbm, 41, rfl⟩
abbrev main_while0b_cst_33 : Ref sig .tc := ⟨.hbm, 42, rfl⟩
abbrev main_while0b_v94 : Ref sig .tc := ⟨.hbm, 43, rfl⟩
abbrev main_while0b_v95 : Ref sig .tc := ⟨.hbm, 44, rfl⟩
abbrev main_while0b_v96 : Ref sig .tc := ⟨.hbm, 45, rfl⟩
abbrev main_while0b_c_34 : Ref sig .tc := ⟨.hbm, 46, rfl⟩
abbrev main_while0b_v97 : Ref sig .tc := ⟨.hbm, 47, rfl⟩
abbrev main_cst_1 : Ref sig .tc := ⟨.hbm, 48, rfl⟩
abbrev main_v3 : Ref sig .tc := ⟨.hbm, 49, rfl⟩
abbrev main_v4 : Ref sig .tc := ⟨.hbm, 50, rfl⟩
abbrev main_cst_2 : Ref sig .tc := ⟨.hbm, 51, rfl⟩
abbrev main_v5 : Ref sig .tc := ⟨.hbm, 52, rfl⟩
abbrev main_v6 : Ref sig .tc := ⟨.hbm, 53, rfl⟩
abbrev main_cst_3 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_cst_4 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_cst_5 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_c_6 : Ref sig .tc := ⟨.hbm, 72, rfl⟩
abbrev main_v22 : Ref sig .tc := ⟨.hbm, 73, rfl⟩
abbrev main_v23 : Ref sig .tc := ⟨.hbm, 74, rfl⟩
abbrev main_c_7 : Ref sig .tc := ⟨.hbm, 75, rfl⟩
abbrev main_call1_v0 : Ref sig .tc := ⟨.hbm, 76, rfl⟩
abbrev main_call1_v1 : Ref sig .tc := ⟨.hbm, 77, rfl⟩
abbrev main_v24 : Ref sig .tc := ⟨.hbm, 78, rfl⟩
abbrev main_v25 : Ref sig .tc := ⟨.hbm, 79, rfl⟩
abbrev main_c_8 : Ref sig .tc := ⟨.hbm, 80, rfl⟩
abbrev main_v26 : Ref sig .tc := ⟨.hbm, 81, rfl⟩
abbrev main_v27 : Ref sig .tc := ⟨.hbm, 82, rfl⟩
abbrev main_c_9 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_c_10 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_c_11 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_c_12 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_c_13 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_c_14 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_call2_c : Ref sig .tc := ⟨.hbm, 112, rfl⟩
abbrev main_call2_v0 : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_c_1 : Ref sig .tc := ⟨.hbm, 120, rfl⟩
abbrev main_call2_c_2 : Ref sig .tc := ⟨.hbm, 121, rfl⟩
abbrev main_call2_v6 : Ref sig .tc := ⟨.hbm, 122, rfl⟩
abbrev main_call2_v7 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_c_3 : Ref sig .tc := ⟨.hbm, 128, rfl⟩
abbrev main_call2_v12 : Ref sig .tc := ⟨.hbm, 129, rfl⟩
abbrev main_call2_v13 : Ref sig .tc := ⟨.hbm, 130, rfl⟩
abbrev main_call2_cst : Ref sig .tc := ⟨.hbm, 131, rfl⟩
abbrev main_call2_v14 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_call3_c : Ref sig .tc := ⟨.hbm, 136, rfl⟩
abbrev main_call3_v0 : Ref sig .tc := ⟨.hbm, 137, rfl⟩
abbrev main_call3_v1 : Ref sig .tc := ⟨.hbm, 138, rfl⟩
abbrev main_call3_c_0 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_c_1 : Ref sig .tc := ⟨.hbm, 144, rfl⟩
abbrev main_call3_c_2 : Ref sig .tc := ⟨.hbm, 145, rfl⟩
abbrev main_call3_v6 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_call3_v11 : Ref sig .tc := ⟨.hbm, 151, rfl⟩
abbrev main_call3_c_3 : Ref sig .tc := ⟨.hbm, 152, rfl⟩
abbrev main_call3_v12 : Ref sig .tc := ⟨.hbm, 153, rfl⟩
abbrev main_call3_v13 : Ref sig .tc := ⟨.hbm, 154, rfl⟩
abbrev main_call3_cst : Ref sig .tc := ⟨.hbm, 155, rfl⟩
abbrev main_call3_v14 : Ref sig .tc := ⟨.hbm, 156, rfl⟩
abbrev main_v54 : Ref sig .tc := ⟨.hbm, 157, rfl⟩
abbrev main_c_15 : Ref sig .tc := ⟨.hbm, 158, rfl⟩
abbrev main_v55 : Ref sig .tc := ⟨.hbm, 159, rfl⟩
abbrev main_v56 : Ref sig .tc := ⟨.hbm, 160, rfl⟩
abbrev main_c_16 : Ref sig .tc := ⟨.hbm, 161, rfl⟩
abbrev main_v57 : Ref sig .tc := ⟨.hbm, 162, rfl⟩
abbrev main_v58 : Ref sig .tc := ⟨.hbm, 163, rfl⟩
abbrev main_cst_17 : Ref sig .tc := ⟨.hbm, 164, rfl⟩
abbrev main_v59 : Ref sig .tc := ⟨.hbm, 165, rfl⟩
abbrev main_c_18 : Ref sig .tc := ⟨.hbm, 166, rfl⟩
abbrev main_v60 : Ref sig .tc := ⟨.hbm, 167, rfl⟩
abbrev main_cst_19 : Ref sig .tc := ⟨.hbm, 168, rfl⟩
abbrev main_v61 : Ref sig .tc := ⟨.hbm, 169, rfl⟩
abbrev main_v62 : Ref sig .tc := ⟨.hbm, 170, rfl⟩
abbrev main_cst_20 : Ref sig .tc := ⟨.hbm, 171, rfl⟩
abbrev main_call4_v0 : Ref sig .tc := ⟨.hbm, 172, rfl⟩
abbrev main_v63 : Ref sig .tc := ⟨.hbm, 173, rfl⟩
abbrev main_c_21 : Ref sig .tc := ⟨.hbm, 174, rfl⟩
abbrev main_v64_0 : Ref sig .tc := ⟨.hbm, 175, rfl⟩
abbrev main_v64_1 : Ref sig .tc := ⟨.hbm, 176, rfl⟩
abbrev main_v64_2 : Ref sig .tc := ⟨.hbm, 177, rfl⟩
abbrev main_v64_3 : Ref sig .tc := ⟨.hbm, 178, rfl⟩
abbrev main_while1c_c_28 : Ref sig .tc := ⟨.hbm, 179, rfl⟩
abbrev main_while1c_v75 : Ref sig .tc := ⟨.hbm, 180, rfl⟩
abbrev main_while1b_call5_c : Ref sig .tc := ⟨.hbm, 181, rfl⟩
abbrev main_while1b_call5_c_0 : Ref sig .tc := ⟨.hbm, 182, rfl⟩
abbrev main_while1b_call5_v0 : Ref sig .tc := ⟨.hbm, 183, rfl⟩
abbrev main_while1b_v75 : Ref sig .tc := ⟨.hbm, 184, rfl⟩
abbrev main_while1b_call6_c : Ref sig .tc := ⟨.hbm, 185, rfl⟩
abbrev main_while1b_call6_c_0 : Ref sig .tc := ⟨.hbm, 186, rfl⟩
abbrev main_while1b_call6_v0 : Ref sig .tc := ⟨.hbm, 187, rfl⟩
abbrev main_while1b_v76 : Ref sig .tc := ⟨.hbm, 188, rfl⟩
abbrev main_while1b_v77 : Ref sig .tc := ⟨.hbm, 189, rfl⟩
abbrev main_while1b_cst_28 : Ref sig .tc := ⟨.hbm, 190, rfl⟩
abbrev main_while1b_call7_v0 : Ref sig .tc := ⟨.hbm, 191, rfl⟩
abbrev main_while1b_v78 : Ref sig .tc := ⟨.hbm, 192, rfl⟩
abbrev main_while1b_v79 : Ref sig .tc := ⟨.hbm, 193, rfl⟩
abbrev main_while1b_v80 : Ref sig .tc := ⟨.hbm, 194, rfl⟩
abbrev main_while1b_v81 : Ref sig .tc := ⟨.hbm, 195, rfl⟩
abbrev main_while1b_v82 : Ref sig .tc := ⟨.hbm, 196, rfl⟩
abbrev main_while1b_v83 : Ref sig .tc := ⟨.hbm, 197, rfl⟩
abbrev main_while1b_v84 : Ref sig .tc := ⟨.hbm, 198, rfl⟩
abbrev main_while1b_v85 : Ref sig .tc := ⟨.hbm, 199, rfl⟩
abbrev main_while1b_v86 : Ref sig .tc := ⟨.hbm, 200, rfl⟩
abbrev main_while1b_v87 : Ref sig .tc := ⟨.hbm, 201, rfl⟩
abbrev main_while1b_v88 : Ref sig .tc := ⟨.hbm, 202, rfl⟩
abbrev main_while1b_v89 : Ref sig .tc := ⟨.hbm, 203, rfl⟩
abbrev main_while1b_v90 : Ref sig .tc := ⟨.hbm, 204, rfl⟩
abbrev main_while1b_c_29 : Ref sig .tc := ⟨.hbm, 205, rfl⟩
abbrev main_while1b_v91 : Ref sig .tc := ⟨.hbm, 206, rfl⟩
abbrev main_c_22 : Ref sig .tc := ⟨.hbm, 207, rfl⟩
abbrev main_v65 : Ref sig .tc := ⟨.hbm, 208, rfl⟩
abbrev main_v66 : Ref sig .tc := ⟨.hbm, 209, rfl⟩
abbrev main_v67 : Ref sig .tc := ⟨.hbm, 210, rfl⟩
abbrev main_call8_c : Ref sig .tc := ⟨.hbm, 211, rfl⟩
abbrev main_call8_v0 : Ref sig .tc := ⟨.hbm, 212, rfl⟩
abbrev main_call8_v1 : Ref sig .tc := ⟨.hbm, 213, rfl⟩
abbrev main_call8_c_0 : Ref sig .tc := ⟨.hbm, 214, rfl⟩
abbrev main_call8_v2 : Ref sig .tc := ⟨.hbm, 215, rfl⟩
abbrev main_call8_v3 : Ref sig .tc := ⟨.hbm, 216, rfl⟩
abbrev main_call8_v4 : Ref sig .tc := ⟨.hbm, 217, rfl⟩
abbrev main_call8_v5 : Ref sig .tc := ⟨.hbm, 218, rfl⟩
abbrev main_call8_c_1 : Ref sig .tc := ⟨.hbm, 219, rfl⟩
abbrev main_call8_c_2 : Ref sig .tc := ⟨.hbm, 220, rfl⟩
abbrev main_call8_v6 : Ref sig .tc := ⟨.hbm, 221, rfl⟩
abbrev main_call8_v7 : Ref sig .tc := ⟨.hbm, 222, rfl⟩
abbrev main_call8_v8 : Ref sig .tc := ⟨.hbm, 223, rfl⟩
abbrev main_call8_v9 : Ref sig .tc := ⟨.hbm, 224, rfl⟩
abbrev main_call8_v10 : Ref sig .tc := ⟨.hbm, 225, rfl⟩
abbrev main_call8_v11 : Ref sig .tc := ⟨.hbm, 226, rfl⟩
abbrev main_call8_c_3 : Ref sig .tc := ⟨.hbm, 227, rfl⟩
abbrev main_call8_v12 : Ref sig .tc := ⟨.hbm, 228, rfl⟩
abbrev main_call8_v13 : Ref sig .tc := ⟨.hbm, 229, rfl⟩
abbrev main_call8_cst : Ref sig .tc := ⟨.hbm, 230, rfl⟩
abbrev main_call8_v14 : Ref sig .tc := ⟨.hbm, 231, rfl⟩
abbrev main_v68 : Ref sig .tc := ⟨.hbm, 232, rfl⟩
abbrev main_v69 : Ref sig .tc := ⟨.hbm, 233, rfl⟩
abbrev main_v70 : Ref sig .tc := ⟨.hbm, 234, rfl⟩
abbrev main_v71 : Ref sig .tc := ⟨.hbm, 235, rfl⟩
abbrev main_v72 : Ref sig .tc := ⟨.hbm, 236, rfl⟩
abbrev main_cst_23 : Ref sig .tc := ⟨.hbm, 237, rfl⟩
abbrev main_v73 : Ref sig .tc := ⟨.hbm, 238, rfl⟩
abbrev main_cst_24 : Ref sig .tc := ⟨.hbm, 239, rfl⟩
abbrev main_v74 : Ref sig .tc := ⟨.hbm, 240, rfl⟩

abbrev nD : Nat := 1
abbrev τ : Topo := Topo.v7x

variable {F : FTy → Type} [FloatOps F]

abbrev main_while0_count : Scf.Loop 32 := ⟨0#32, 512#32, 1#32⟩

abbrev main_while1_count : Scf.Loop 32 := ⟨0#32, 512#32, 1#32⟩
-- ==== Proof.Crf.Step.lean ====
/- One time step of the kernel, in the kernel's own operations: the CRF row's step and the CTC row's step, each as
   a function of the step's five score planes and of the row before it; and the 32 steps of one grid point. -/
module

public import proofs.«01_k».proof.Proof.Gen.KernelIdeal.Skeleton
public import Idealize.ShloMosaic.Lib.WholeRead

@[expose] public section

noncomputable section

namespace Cert.KernelIdeal.Gen.Step

open Idealize.ShloMosaic Idealize.SL.Sem

variable {F : FTy → Type} [FloatOps F] [Named F]

/-- An index below zero counted from the end of a row of 128. -/
def wrap (i : IVec S32x128 32) : IVec S32x128 32 :=
  shapeCast S32x128 (shapeCast S32x128x1 (select (cmpi .slt i (broadcast S32x128 0#32)) (addi i (broadcast S32x128 128#32)) i)
    shapeCasts_S32x128_S32x128x1) shapeCasts_S32x128x1_S32x128

/-- A row of 128 read at 256 places: the first 128 and the last 128 apart, then side by side. -/
def take (half : FVec F S32x128 .f32) (idx : IVec S32x256 32) : FVec F S32x256 .f32 :=
  concatenate S32x256 1
    [⟨S32x128, dynamicGather 1 half (wrap (extractStridedSlice S32x128 ![0, 0] idx slices_S32x256_o0_0_S32x128))⟩,
     ⟨S32x128, dynamicGather 1 half (wrap (extractStridedSlice S32x128 ![0, 128] idx slices_S32x256_o0_128_S32x128))⟩]
    concatenates_S32x128_S32x128_S32x256_d1

/-- The first 128 of a row of 256. -/
def lo (x : FVec F S32x256 .f32) : FVec F S32x128 .f32 := extractStridedSlice S32x128 ![0, 0] x slices_S32x256_o0_0_S32x128
/-- The last 128 of a row of 256. -/
def hi (x : FVec F S32x256 .f32) : FVec F S32x128 .f32 := extractStridedSlice S32x128 ![0, 128] x slices_S32x256_o0_128_S32x128

/-- A row of 256 read at 256 places. -/
def gather (p : FVec F S32x256 .f32) (s : IVec S32x256 32) : FVec F S32x256 .f32 :=
  select (cmpi .slt s (broadcast S32x256 128#32))
    (take (lo p) (andi s (broadcast S32x256 127#32))) (take (hi p) (andi s (broadcast S32x256 127#32)))

/-- A plane of scores, times the base-two logarithm of e. -/
def scaled (v : Vec F S1x1x32x256 .bf16) : FVec F S32x256 .f32 :=
  mulf (extf .f32 (shapeCast S32x256 v shapeCasts_S1x1x32x256_S32x256) bitsLt_bf16_f32)
    (broadcast S32x256 (Named.named κ "log2e" 0x3FB8AA3B#32))

/-- What predecessor `o` of each state adds: two to its row minus the state's own, plus the edge's score. -/
def edge (p : FVec F S32x256 .f32) (half : FVec F S32x128 .f32) (o : BitVec 32) (a : FVec F S32x256 .f32) : FVec F S32x256 .f32 :=
  exp2 (addf p (subf (take half (addi k0_pay4 (broadcast S32x256 o))) a))

/-- The CRF row after a step, from the row before it and the step's five planes. -/
def crf (p0 p1 p2 p3 p4 a : FVec F S32x256 .f32) : FVec F S32x256 .f32 :=
  addf a (mulf (log (addf (addf (addf (addf (exp2 p0) (edge p1 (lo a) 0#32 a)) (edge p2 (lo a) 64#32 a)) (edge p3 (hi a) 0#32 a))
    (edge p4 (hi a) 64#32 a))) (broadcast S32x256 (Named.named κ "log2e" 0x3FB8AA3B#32)))

/-- The score of staying, at each place of the target. -/
def stay (p0 : FVec F S32x256 .f32) (s : IVec S32x256 32) : FVec F S32x256 .f32 :=
  select k0_pay7 (gather p0 s) (broadcast S32x256 (Scalar.ofBits .f32 0x00000000#32))

/-- One base's choice in the score of moving. -/
def pick (p : FVec F S32x256 .f32) (s d : IVec S32x256 32) (b : BitVec 32) (z : FVec F S32x256 .f32) : FVec F S32x256 .f32 :=
  select (cmpi .eq d (broadcast S32x256 b)) (gather p s) z

/-- The score of moving, at each place of the target. -/
def move (p1 p2 p3 p4 : FVec F S32x256 .f32) (s d : IVec S32x256 32) : FVec F S32x256 .f32 :=
  pick p4 s d 4#32 (pick p3 s d 3#32 (pick p2 s d 2#32 (pick p1 s d 1#32
    (mulf (broadcast S32x256 (Named.named κ "neg" 0xFE967699#32)) (broadcast S32x256 (Scalar.ofBits .f32 0x3F800000#32))))))

/-- The row of the places before: one place along, nothing coming into the first. -/
def shifted (a : FVec F S32x256 .f32) : FVec F S32x256 .f32 :=
  select (cmpi .eq (iota .tc S32x256 32 [1] iota_S32x256_d1_w32) (broadcast S32x256 0#32))
    (broadcast S32x256 (Named.named κ "neg" 0xFE967699#32)) (dynamicRotate 1 1#32 none a rotates_S32x256_d1)

/-- The base-two logarithm of the sum of two powers of two, taken over the larger exponent. -/
def lae2 (x y : FVec F S32x256 .f32) : FVec F S32x256 .f32 :=
  addf (maximumf x y) (mulf (log (addf (exp2 (subf x (maximumf x y))) (exp2 (subf y (maximumf x y)))))
    (broadcast S32x256 (Named.named κ "log2e" 0x3FB8AA3B#32)))

/-- The CTC row after a step, from the row before it and the step's five planes. -/
def ctc (s d : IVec S32x256 32) (p0 p1 p2 p3 p4 a : FVec F S32x256 .f32) : FVec F S32x256 .f32 :=
  lae2 (addf a (stay p0 s)) (addf (shifted a) (move p1 p2 p3 p4 s d))

/-- Plane `d` of step `j` lies inside a point's block of 32 steps of 5 planes. -/
theorem inb (j d : ℕ) (hj : j < 32) (hd : d < 5) :
    ∀ a, (![j, d, 0, 0] : Fin 4 → Nat) a + S1x1x32x256.size a ≤ S32x5x32x256.size a := by
  intro a
  fin_cases a
  · show j + 1 ≤ 32; omega
  · show d + 1 ≤ 5; omega
  · show 0 + 32 ≤ 32; omega
  · show 0 + 256 ≤ 256; omega

/-- Plane `d` of step `j`, as the body loads it. -/
def plane (m : Memref sig .tc .vmem S32x5x32x256 .bf16) (hm : m.IsWhole) (x : Vec F S32x5x32x256 .bf16) (j d : ℕ) (hj : j < 32) (hd : d < 5) :
    Vec F S1x1x32x256 .bf16 :=
  View.readAt (Elt F) m.view (Rect.unit (s := S32x5x32x256) ![j, d, 0, 0] S1x1x32x256.size (inb j d hj hd)).toLoadRect (hm.unread x)

/-- `n` steps of a row, each with its own number. -/
def steps {S : Type} (f : (j : ℕ) → j < 32 → S → S) (s : S) (n : ℕ) : n ≤ 32 → S :=
  Nat.rec (motive := fun n => n ≤ 32 → S) (fun _ => s) (fun n r h => f n h (r (Nat.le_of_succ_le h))) n

/-- Step `j` of a point for the CRF row. -/
def crfAt (m : Memref sig .tc .vmem S32x5x32x256 .bf16) (hm : m.IsWhole) (x : Vec F S32x5x32x256 .bf16) (j : ℕ) (hj : j < 32)
    (a : FVec F S32x256 .f32) : FVec F S32x256 .f32 :=
  crf (scaled (plane m hm x j 0 hj (by decide))) (scaled (plane m hm x j 1 hj (by decide))) (scaled (plane m hm x j 2 hj (by decide)))
    (scaled (plane m hm x j 3 hj (by decide))) (scaled (plane m hm x j 4 hj (by decide))) a

/-- Step `j` of a point for the CTC row. -/
def ctcAt (s d : IVec S32x256 32) (m : Memref sig .tc .vmem S32x5x32x256 .bf16) (hm : m.IsWhole) (x : Vec F S32x5x32x256 .bf16) (j : ℕ)
    (hj : j < 32) (a : FVec F S32x256 .f32) : FVec F S32x256 .f32 :=
  ctc s d (scaled (plane m hm x j 0 hj (by decide))) (scaled (plane m hm x j 1 hj (by decide))) (scaled (plane m hm x j 2 hj (by decide)))
    (scaled (plane m hm x j 3 hj (by decide))) (scaled (plane m hm x j 4 hj (by decide))) a

end Cert.KernelIdeal.Gen.Step

end
-- ==== Proof.Crf.Read.lean ====
/- The kernel's step over the extended reals, read at one sequence and one lane: the gathers read the state their
   index names, and the CRF row's step and the two-way sum are their formulas. -/
module

public import proofs.«01_k».proof.Proof.Crf.Step
public import Idealize.ShloMosaic.Lib.Pointwise
public import Idealize.ShloMosaic.Lib.WordCmp
@[expose] public section
noncomputable section
namespace Cert.KernelIdeal.Gen.Step
open Idealize.ShloMosaic Idealize.ShloMosaic.WordCmp Idealize.SL.Sem
open Cert.KernelIdeal Cert.KernelIdeal.Gen

/-- A scaled plane at a lane. -/
theorem scaled_at (v : Vec Ideal S1x1x32x256 .bf16) (n : Fin 32) (l : Fin 256) :
    scaled v (ix2 n l) = v (ix4 0 0 n l) * (((Real.log 2)⁻¹ : ℝ) : EReal) := by
  pointwise [scaled]
  rfl

/-- An index inside the row is kept as it is. -/
theorem wrap_at (i : IVec S32x128 32) (n : Fin 32) (l : Fin 128) (k : Fin 128) (h : i (ix2 n l) = BitVec.ofNat 32 k) :
    wrap i (ix2 n l) = BitVec.ofNat 32 k := by
  pointwise [wrap]
  rw [h, cmpi_slt_ofNat (b := 0) (by omega) (by omega)]
  simp only [Nat.not_lt_zero, decide_false, select_ofBool, Bool.false_eq_true, ↓reduceIte]

/-- The first half at a lane. -/
theorem lo_at (x : FVec Ideal S32x256 .f32) (n : Fin 32) (l : Fin 128) : lo x (ix2 n l) = x (ix2 n ⟨l.val, by omega⟩) := by
  pointwise [lo]

/-- The second half at a lane. -/
theorem hi_at (x : FVec Ideal S32x256 .f32) (n : Fin 32) (l : Fin 128) : hi x (ix2 n l) = x (ix2 n ⟨128 + l.val, by omega⟩) := by
  pointwise [hi]

/-- A row of 128 read at a place that the indices name. -/
theorem take_at (half : FVec Ideal S32x128 .f32) (idx : IVec S32x256 32) (n : Fin 32) (l : Fin 256) (k : Fin 128) (h : idx (ix2 n l) = BitVec.ofNat 32 k) :
    take half idx (ix2 n l) = half (ix2 n k) := by
  have e : (BitVec.ofNat 32 k.val).toNat % 128 = k := by
    rw [BitVec.toNat_ofNat]; omega
  pointwise [take]
  split
  · rename_i hl
    rw [wrap_at _ n ⟨l, hl⟩ k (by pointwise; exact h)]
    simp only [e]
  · rename_i hl
    rw [wrap_at _ n ⟨l - 128, by omega⟩ k (by pointwise; rw [← h]; congr 2; ext; simp; omega)]
    simp only [e]

/-- A row of 256 read at a place that the indices name: from the half the place lies in. -/
theorem gather_at (p : FVec Ideal S32x256 .f32) (s : IVec S32x256 32) (n : Fin 32) (l : Fin 256) (k : Fin 256) (h : s (ix2 n l) = BitVec.ofNat 32 k) :
    gather p s (ix2 n l) = p (ix2 n k) := by
  pointwise [gather]
  have ha : ∀ k : Fin 256, IntOp.andi (BitVec.ofNat 32 k.val) 127#32 = BitVec.ofNat 32 (k.val % 128) := by decide +kernel
  have hk : (andi s (broadcast S32x256 127#32)) (ix2 n l) = BitVec.ofNat 32 (⟨k.val % 128, by omega⟩ : Fin 128).val := by
    pointwise
    rw [h, ha]
  rw [take_at _ _ n l _ hk, take_at _ _ n l _ hk, lo_at, hi_at, h, cmpi_slt_ofNat (b := 128) (by omega) (by omega), select_ofBool]
  by_cases hl : k.val < 128
  · simp only [hl, decide_true, ↓reduceIte]
    congr 2; ext; simp; omega
  · simp only [hl, decide_false, Bool.false_eq_true, ↓reduceIte]
    congr 2; ext; simp; omega

/-- A lane divided by four. -/
theorem pay4_at (n : Fin 32) (l : Fin 256) : k0_pay4 (ix2 n l) = BitVec.ofNat 32 (l.val / 4) := by
  pointwise [k0_pay4]
  have : ∀ l : Fin 256, IntOp.shrsi ArithUnit.vector (BitVec.ofNat 32 l.val) 2#32 = BitVec.ofNat 32 (l.val / 4) := by decide +kernel
  exact this l

/-- The row one place along: nothing comes into the first place. -/
theorem shifted_at (a : FVec Ideal S32x256 .f32) (n : Fin 32) (l : Fin 256) :
    shifted a (ix2 n l) = if h : l.val = 0 then ⊥ else a (ix2 n ⟨l.val - 1, by omega⟩) := by
  pointwise [shifted]
  rw [cmpi_eq_ofNat (b := 0) (by omega) (by omega), select_ofBool]
  by_cases hl : l.val = 0
  · simp only [hl, decide_true, ↓reduceIte, ↓reduceDIte]
    rfl
  · simp only [hl, decide_false, Bool.false_eq_true, ↓reduceIte, ↓reduceDIte]
    congr 2; ext; simp; omega

/-- The score of staying, inside the target. -/
theorem stay_at (p : FVec Ideal S32x256 .f32) (s : IVec S32x256 32) (n : Fin 32) (l : Fin 256) (k : Fin 256) (hl : l.val < 253) (h : s (ix2 n l) = BitVec.ofNat 32 k) :
    stay p s (ix2 n l) = p (ix2 n k) := by
  pointwise [stay, k0_pay7]
  rw [cmpi_slt_ofNat (b := 253) (by omega) (by omega), select_ofBool, gather_at p s n l k h]
  simp only [hl, decide_true, ↓reduceIte]

/-- One base's choice. -/
theorem pick_at (p z : FVec Ideal S32x256 .f32) (s d : IVec S32x256 32) (b : ℕ) (hb : b < 5) (n : Fin 32) (l : Fin 256) (k : Fin 256) (c : ℕ) (hc : c < 5)
    (h : s (ix2 n l) = BitVec.ofNat 32 k) (hd : d (ix2 n l) = BitVec.ofNat 32 c) :
    pick p s d (BitVec.ofNat 32 b) z (ix2 n l) = if c = b then p (ix2 n k) else z (ix2 n l) := by
  pointwise [pick]
  rw [hd, cmpi_eq_ofNat (by omega) (by omega), select_ofBool, gather_at p s n l k h]
  simp only [decide_eq_true_eq]

/-- One edge of the CRF step. -/
theorem edge_at (p : FVec Ideal S32x256 .f32) (half : FVec Ideal S32x128 .f32) (o : ℕ) (ho : o = 0 ∨ o = 64) (a : FVec Ideal S32x256 .f32) (n : Fin 32) (l : Fin 256) :
    edge p half (BitVec.ofNat 32 o) a (ix2 n l) = Ideal.exp2 (p (ix2 n l) + (half (ix2 n ⟨o + l.val / 4, by omega⟩) - a (ix2 n l))) := by
  have hk : (addi k0_pay4 (broadcast S32x256 (BitVec.ofNat 32 o))) (ix2 n l) = BitVec.ofNat 32 (⟨o + l.val / 4, by omega⟩ : Fin 128).val := by
    pointwise
    rw [pay4_at]
    rcases ho with rfl | rfl
    · simp [IntOp.addi]
    · apply BitVec.eq_of_toNat_eq
      simp [IntOp.addi]
      omega
  pointwise [edge]
  rw [take_at _ _ n l _ hk]
  rfl

/-- The CRF step at a lane. -/
theorem crf_at (p0 p1 p2 p3 p4 a : FVec Ideal S32x256 .f32) (n : Fin 32) (l : Fin 256) :
    crf p0 p1 p2 p3 p4 a (ix2 n l) = a (ix2 n l) + Ideal.log (Ideal.exp2 (p0 (ix2 n l))
      + Ideal.exp2 (p1 (ix2 n l) + (a (ix2 n ⟨l.val / 4, by omega⟩) - a (ix2 n l)))
      + Ideal.exp2 (p2 (ix2 n l) + (a (ix2 n ⟨64 + l.val / 4, by omega⟩) - a (ix2 n l)))
      + Ideal.exp2 (p3 (ix2 n l) + (a (ix2 n ⟨128 + l.val / 4, by omega⟩) - a (ix2 n l)))
      + Ideal.exp2 (p4 (ix2 n l) + (a (ix2 n ⟨192 + l.val / 4, by omega⟩) - a (ix2 n l)))) * (((Real.log 2)⁻¹ : ℝ) : EReal) := by
  pointwise [crf]
  rw [edge_at p1 _ 0 (.inl rfl), edge_at p2 _ 64 (.inr rfl), edge_at p3 _ 0 (.inl rfl), edge_at p4 _ 64 (.inr rfl)]
  simp only [lo_at, hi_at, Nat.zero_add, ← Nat.add_assoc, Nat.reduceAdd]
  rfl

/-- The two-way sum at a lane. -/
theorem lae2_at (x y : FVec Ideal S32x256 .f32) (j) : lae2 x y j = max (x j) (y j) + Ideal.log (Ideal.exp2 (x j - max (x j) (y j)) + Ideal.exp2 (y j - max (x j) (y j))) * (((Real.log 2)⁻¹ : ℝ) : EReal) := by
  pointwise [lae2]
  rfl

/-- The score of moving, where the base is one of four. -/
theorem move_at (p : ℕ → FVec Ideal S32x256 .f32) (s d : IVec S32x256 32) (n : Fin 32) (l : Fin 256) (k : Fin 256) (c : ℕ) (h0 : 0 < c) (hc : c < 5)
    (h : s (ix2 n l) = BitVec.ofNat 32 k) (hd : d (ix2 n l) = BitVec.ofNat 32 c) :
    move (p 1) (p 2) (p 3) (p 4) s d (ix2 n l) = p c (ix2 n k) := by
  unfold move
  rw [pick_at _ _ s d 4 (by omega) n l k c hc h hd, pick_at _ _ s d 3 (by omega) n l k c hc h hd, pick_at _ _ s d 2 (by omega) n l k c hc h hd,
    pick_at _ _ s d 1 (by omega) n l k c hc h hd]
  have : c = 1 ∨ c = 2 ∨ c = 3 ∨ c = 4 := by omega
  rcases this with rfl | rfl | rfl | rfl <;> simp

/-- The CTC step at a lane inside the target, not the first. -/
theorem ctc_at (p : ℕ → FVec Ideal S32x256 .f32) (s d : IVec S32x256 32) (a : FVec Ideal S32x256 .f32) (n : Fin 32) (l : Fin 256) (k : Fin 256) (c : ℕ)
    (hl : l.val < 253) (hl0 : l.val ≠ 0) (h0 : 0 < c) (hc : c < 5) (h : s (ix2 n l) = BitVec.ofNat 32 k) (hd : d (ix2 n l) = BitVec.ofNat 32 c) :
    ctc s d (p 0) (p 1) (p 2) (p 3) (p 4) a (ix2 n l)
      = max (a (ix2 n l) + p 0 (ix2 n k)) (a (ix2 n ⟨l.val - 1, by omega⟩) + p c (ix2 n k))
        + Ideal.log (Ideal.exp2 (a (ix2 n l) + p 0 (ix2 n k) - max (a (ix2 n l) + p 0 (ix2 n k)) (a (ix2 n ⟨l.val - 1, by omega⟩) + p c (ix2 n k)))
          + Ideal.exp2 (a (ix2 n ⟨l.val - 1, by omega⟩) + p c (ix2 n k) - max (a (ix2 n l) + p 0 (ix2 n k)) (a (ix2 n ⟨l.val - 1, by omega⟩) + p c (ix2 n k))))
          * (((Real.log 2)⁻¹ : ℝ) : EReal) := by
  have e1 : addf a (stay (p 0) s) (ix2 n l) = a (ix2 n l) + p 0 (ix2 n k) := by
    pointwise
    rw [stay_at (p 0) s n l k hl h]
  have e2 : addf (shifted a) (move (p 1) (p 2) (p 3) (p 4) s d) (ix2 n l) = a (ix2 n ⟨l.val - 1, by omega⟩) + p c (ix2 n k) := by
    pointwise
    rw [shifted_at, dif_neg hl0, move_at p s d n l k c h0 hc h hd]
  unfold ctc
  rw [lae2_at, e1, e2]

/-- The CTC step at the first lane. -/
theorem ctc_at_zero (p : ℕ → FVec Ideal S32x256 .f32) (s d : IVec S32x256 32) (a : FVec Ideal S32x256 .f32) (n : Fin 32) (l : Fin 256) (k : Fin 256)
    (hl0 : l.val = 0) (h : s (ix2 n l) = BitVec.ofNat 32 k) :
    ctc s d (p 0) (p 1) (p 2) (p 3) (p 4) a (ix2 n l)
      = max (a (ix2 n l) + p 0 (ix2 n k)) ⊥ + Ideal.log (Ideal.exp2 (a (ix2 n l) + p 0 (ix2 n k) - max (a (ix2 n l) + p 0 (ix2 n k)) ⊥)
          + Ideal.exp2 (⊥ - max (a (ix2 n l) + p 0 (ix2 n k)) ⊥)) * (((Real.log 2)⁻¹ : ℝ) : EReal) := by
  have e1 : addf a (stay (p 0) s) (ix2 n l) = a (ix2 n l) + p 0 (ix2 n k) := by
    pointwise
    rw [stay_at (p 0) s n l k (by omega) h]
  have e2 : addf (shifted a) (move (p 1) (p 2) (p 3) (p 4) s d) (ix2 n l) = ⊥ := by
    pointwise
    rw [shifted_at, dif_pos hl0]; exact EReal.bot_add _
  unfold ctc
  rw [lae2_at, e1, e2]

end Cert.KernelIdeal.Gen.Step

end
-- ==== Proof.Crf.Point.lean ====
/- What one grid point leaves: the two rows it carries are the 32 steps over the rows before, in each of the body's
   three cases (the first point, a middle one, the last), and the last point's block of losses is the closing
   arithmetic on its own two rows. -/
module

public import proofs.«01_k».proof.Proof.Gen.KernelIdeal.Frame
public import proofs.«01_k».proof.Proof.Crf.Step
public import Idealize.ShloMosaic.Lib.VecWindow

@[expose] public section

set_option maxRecDepth 16384

noncomputable section

namespace Cert.KernelIdeal.Gen.Step

open Idealize.ShloMosaic Idealize.ShloMosaic.TcCoe Idealize.ShloMosaic.Tactic Idealize.SL.Sem

variable {F : FTy → Type} [FloatOps F] [Named F]

/-- Plane `d` of step `j` of a point's block of planes. -/
def planeOf (x : Vec F S32x5x32x256 .bf16) (j d : ℕ) (hj : j < 32) (hd : d < 5) : Vec F S1x1x32x256 .bf16 :=
  fun y => x ((Rect.unit (s := S32x5x32x256) ![j, d, 0, 0] S1x1x32x256.size (inb j d hj hd)).toLoadRect.idx y)

/-- The load of a plane reads it off the block, wherever the block is staged. -/
theorem plane_eq (m : Memref sig .tc .vmem S32x5x32x256 .bf16) (hm : m.IsWhole) (x : Vec F S32x5x32x256 .bf16) (j d : ℕ) (hj : j < 32) (hd : d < 5) :
    plane m hm x j d hj hd = planeOf x j d hj hd :=
  funext fun y => hm.readAt_unread x (Rect.unit (s := S32x5x32x256) ![j, d, 0, 0] S1x1x32x256.size (inb j d hj hd)).toLoadRect y

/-- A load of a whole row of 256, wherever it is staged, reads the row. -/
theorem row_eq {e : EltTy} (m : Memref sig .tc .vmem S32x256 e) (hm : m.IsWhole) (x : Vec F S32x256 e) :
    View.readAt (Elt F) m.view (Rect.unit (s := S32x256) ![0, 0] S32x256.size inb_S32x256_S32x256_0_0).toLoadRect (hm.unread x) = x := by
  rw [View.readAt_full, hm.read_unread]

/-- A load of the column of lengths, wherever it is staged, reads the column. -/
theorem col_eq {e : EltTy} (m : Memref sig .tc .vmem S32x1 e) (hm : m.IsWhole) (x : Vec F S32x1 e) :
    View.readAt (Elt F) m.view (Rect.unit (s := S32x1) ![0, 0] S32x1.size inb_S32x1_S32x1_0_0).toLoadRect (hm.unread x) = x := by
  rw [View.readAt_full, hm.read_unread]

/-- The CRF row after step `j` of a block of planes. -/
def crfStep (x : Vec F S32x5x32x256 .bf16) (j : ℕ) (hj : j < 32) (a : FVec F S32x256 .f32) : FVec F S32x256 .f32 :=
  crf (scaled (planeOf x j 0 hj (by decide))) (scaled (planeOf x j 1 hj (by decide))) (scaled (planeOf x j 2 hj (by decide)))
    (scaled (planeOf x j 3 hj (by decide))) (scaled (planeOf x j 4 hj (by decide))) a

/-- The CTC row after step `j` of a block of planes. -/
def ctcStep (s d : IVec S32x256 32) (x : Vec F S32x5x32x256 .bf16) (j : ℕ) (hj : j < 32) (a : FVec F S32x256 .f32) : FVec F S32x256 .f32 :=
  ctc s d (scaled (planeOf x j 0 hj (by decide))) (scaled (planeOf x j 1 hj (by decide))) (scaled (planeOf x j 2 hj (by decide)))
    (scaled (planeOf x j 3 hj (by decide))) (scaled (planeOf x j 4 hj (by decide))) a

/-- The CRF row after a point. -/
def crfPoint (x : Vec F S32x5x32x256 .bf16) (a : FVec F S32x256 .f32) : FVec F S32x256 .f32 := steps (crfStep x) a 32 (le_refl 32)
/-- The CTC row after a point. -/
def ctcPoint (s d : IVec S32x256 32) (x : Vec F S32x5x32x256 .bf16) (a : FVec F S32x256 .f32) : FVec F S32x256 .f32 :=
  steps (ctcStep s d x) a 32 (le_refl 32)

/-- A CRF step over the block in memory is the step over the block's values. -/
theorem crfAt_eq (m : Memref sig .tc .vmem S32x5x32x256 .bf16) (hm : m.IsWhole) (x : Vec F S32x5x32x256 .bf16) : crfAt m hm x = crfStep x := by
  funext j hj a; simp only [crfAt, crfStep, plane_eq]

/-- A CTC step over the block in memory is the step over the block's values. -/
theorem ctcAt_eq (s d : IVec S32x256 32) (m : Memref sig .tc .vmem S32x5x32x256 .bf16) (hm : m.IsWhole) (x : Vec F S32x5x32x256 .bf16) :
    ctcAt s d m hm x = ctcStep s d x := by
  funext j hj a; simp only [ctcAt, ctcStep, plane_eq]

/-- A row recast to its own shape is itself. -/
theorem cast_row {α : Type} (x : S32x256.Idx → α) : shapeCast S32x256 x shapeCasts_S32x256_S32x256 = x := shapeCast_self _ _

/-- The states as the body loads them. -/
theorem states_eq (m : Memref sig .tc .vmem S32x256 .i32) (hm : m.IsWhole) (x : Vec F S32x256 .i32) :
    k0_pay5 (View.readAt (Elt F) m.view (Rect.unit (s := S32x256) ![0, 0] S32x256.size inb_S32x256_S32x256_0_0).toLoadRect (hm.unread x)) = x := by
  rw [row_eq]; exact cast_row x

/-- The bases moved to as the body loads them. -/
theorem bases_eq (m : Memref sig .tc .vmem S32x256 .i32) (hm : m.IsWhole) (x : Vec F S32x256 .i32) :
    k0_pay6 (View.readAt (Elt F) m.view (Rect.unit (s := S32x256) ![0, 0] S32x256.size inb_S32x256_S32x256_0_0).toLoadRect (hm.unread x)) = x := by
  rw [row_eq]; exact cast_row x

/-- The piece the first point stores last into the CRF row's scratch: the 32 steps, from the row it loaded. -/
theorem pieces0_A (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : cond0_0 i) (hc1 : ¬cond0_1 i)
  (x0 : Vec F S32x1 .i32) (x1 x2 : Vec F S32x256 .i32) (x3 x4 : Vec F S32x256 .f32) (x5 : Vec F S32x5x32x256 .bf16) :
    (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1
      = ⟨Rect.unit (s := S32x256) ![0, 0] S32x256.size inb_S32x256_S32x256_0_0, shapeCast S32x256 (steps (crfAt arg6 harg6 x5)
        (View.readCov arg10.view [⟨Rect.unit (s := S32x256) ![0, 0] S32x256.size inb_S32x256_S32x256_0_0, k0_pay2⟩] (Rect.unit (s := S32x256) ![0, 0] S32x256.size inb_S32x256_S32x256_0_0).toLoadRect) 32 (by decide)) shapeCasts_S32x256_S32x256⟩ :: [⟨Rect.unit (s := S32x256) ![0, 0] S32x256.size inb_S32x256_S32x256_0_0, k0_pay2⟩] := by
  sl_kernel_rfl

/-- So the first point leaves the CRF row 32 steps on. -/
theorem row0_A (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : cond0_0 i) (hc1 : ¬cond0_1 i)
  (x0 : Vec F S32x1 .i32) (x1 x2 : Vec F S32x256 .i32) (x3 x4 : Vec F S32x256 .f32) (x5 : Vec F S32x5x32x256 .bf16) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = crfPoint x5 k0_pay2 := by
  unfold sout0_A_0
  rw [pieces0_A, View.read_writes_full, cast_row]
  rw [View.readCov_full, crfAt_eq]
  rfl

/-- The piece the first point stores last into the CTC row's scratch: the 32 steps, from the row it loaded. -/
theorem pieces1_A (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : cond0_0 i) (hc1 : ¬cond0_1 i)
  (x0 : Vec F S32x1 .i32) (x1 x2 : Vec F S32x256 .i32) (x3 x4 : Vec F S32x256 .f32) (x5 : Vec F S32x5x32x256 .bf16) :
    (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1
      = ⟨Rect.unit (s := S32x256) ![0, 0] S32x256.size inb_S32x256_S32x256_0_0, shapeCast S32x256 (steps (ctcAt (k0_pay5 (View.readAt (Elt F) arg2.view (Rect.unit (s := S32x256) ![0, 0] S32x256.size inb_S32x256_S32x256_0_0).toLoadRect (harg2.unread x1))) (k0_pay6 (View.readAt (Elt F) arg3.view (Rect.unit (s := S32x256) ![0, 0] S32x256.size inb_S32x256_S32x256_0_0).toLoadRect (harg3.unread x2))) arg6 harg6 x5)
        (View.readCov arg11.view [⟨Rect.unit (s := S32x256) ![0, 0] S32x256.size inb_S32x256_S32x256_0_0, k0_pay3⟩] (Rect.unit (s := S32x256) ![0, 0] S32x256.size inb_S32x256_S32x256_0_0).toLoadRect) 32 (by decide)) shapeCasts_S32x256_S32x256⟩ :: [⟨Rect.unit (s := S32x256) ![0, 0] S32x256.size inb_S32x256_S32x256_0_0, k0_pay3⟩] := by
  sl_kernel_rfl

/-- So the first point leaves the CTC row 32 steps on. -/
theorem row1_A (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : cond0_0 i) (hc1 : ¬cond0_1 i)
  (x0 : Vec F S32x1 .i32) (x1 x2 : Vec F S32x256 .i32) (x3 x4 : Vec F S32x256 .f32) (x5 : Vec F S32x5x32x256 .bf16) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = ctcPoint x1 x2 x5 k0_pay3 := by
  unfold sout0_A_1
  rw [pieces1_A, View.read_writes_full, cast_row]
  rw [View.readCov_full, states_eq arg2, bases_eq arg3, ctcAt_eq]
  rfl

/-- The piece the a middle point stores last into the CRF row's scratch: the 32 steps, from the row it loaded. -/
theorem pieces0_B (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : ¬cond0_0 i) (hc1 : ¬cond0_1 i)
  (x0 : Vec F S32x1 .i32) (x1 x2 : Vec F S32x256 .i32) (x3 x4 : Vec F S32x256 .f32) (x5 : Vec F S32x5x32x256 .bf16) (xs0 xs1 : Vec F S32x256 .f32) :
    (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1
      = ⟨Rect.unit (s := S32x256) ![0, 0] S32x256.size inb_S32x256_S32x256_0_0, shapeCast S32x256 (steps (crfAt arg6 harg6 x5)
        (View.readAt (Elt F) arg10.view (Rect.unit (s := S32x256) ![0, 0] S32x256.size inb_S32x256_S32x256_0_0).toLoadRect (harg10.unread xs0)) 32 (by decide)) shapeCasts_S32x256_S32x256⟩ :: [] := by
  sl_kernel_rfl

/-- So a middle point leaves the CRF row 32 steps on. -/
theorem row0_B (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : ¬cond0_0 i) (hc1 : ¬cond0_1 i)
  (x0 : Vec F S32x1 .i32) (x1 x2 : Vec F S32x256 .i32) (x3 x4 : Vec F S32x256 .f32) (x5 : Vec F S32x5x32x256 .bf16) (xs0 xs1 : Vec F S32x256 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = crfPoint x5 xs0 := by
  unfold sout0_B_0
  rw [pieces0_B, View.read_writes_full, cast_row]
  rw [row_eq arg10, crfAt_eq]
  rfl

/-- The piece the a middle point stores last into the CTC row's scratch: the 32 steps, from the row it loaded. -/
theorem pieces1_B (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : ¬cond0_0 i) (hc1 : ¬cond0_1 i)
  (x0 : Vec F S32x1 .i32) (x1 x2 : Vec F S32x256 .i32) (x3 x4 : Vec F S32x256 .f32) (x5 : Vec F S32x5x32x256 .bf16) (xs0 xs1 : Vec F S32x256 .f32) :
    (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1
      = ⟨Rect.unit (s := S32x256) ![0, 0] S32x256.size inb_S32x256_S32x256_0_0, shapeCast S32x256 (steps (ctcAt (k0_pay5 (View.readAt (Elt F) arg2.view (Rect.unit (s := S32x256) ![0, 0] S32x256.size inb_S32x256_S32x256_0_0).toLoadRect (harg2.unread x1))) (k0_pay6 (View.readAt (Elt F) arg3.view (Rect.unit (s := S32x256) ![0, 0] S32x256.size inb_S32x256_S32x256_0_0).toLoadRect (harg3.unread x2))) arg6 harg6 x5)
        (View.readAt (Elt F) arg11.view (Rect.unit (s := S32x256) ![0, 0] S32x256.size inb_S32x256_S32x256_0_0).toLoadRect (harg11.unread xs1)) 32 (by decide)) shapeCasts_S32x256_S32x256⟩ :: [] := by
  sl_kernel_rfl

/-- So a middle point leaves the CTC row 32 steps on. -/
theorem row1_B (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : ¬cond0_0 i) (hc1 : ¬cond0_1 i)
  (x0 : Vec F S32x1 .i32) (x1 x2 : Vec F S32x256 .i32) (x3 x4 : Vec F S32x256 .f32) (x5 : Vec F S32x5x32x256 .bf16) (xs0 xs1 : Vec F S32x256 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = ctcPoint x1 x2 x5 xs1 := by
  unfold sout0_B_1
  rw [pieces1_B, View.read_writes_full, cast_row]
  rw [row_eq arg11, states_eq arg2, bases_eq arg3, ctcAt_eq]
  rfl

/-- The piece the last point stores last into the CRF row's scratch: the 32 steps, from the row it loaded. -/
theorem pieces0_C (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : ¬cond0_0 i) (hc1 : cond0_1 i)
  (x0 : Vec F S32x1 .i32) (x1 x2 : Vec F S32x256 .i32) (x3 x4 : Vec F S32x256 .f32) (x5 : Vec F S32x5x32x256 .bf16) (xs0 xs1 : Vec F S32x256 .f32) :
    (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1
      = ⟨Rect.unit (s := S32x256) ![0, 0] S32x256.size inb_S32x256_S32x256_0_0, shapeCast S32x256 (steps (crfAt arg6 harg6 x5)
        (View.readAt (Elt F) arg10.view (Rect.unit (s := S32x256) ![0, 0] S32x256.size inb_S32x256_S32x256_0_0).toLoadRect (harg10.unread xs0)) 32 (by decide)) shapeCasts_S32x256_S32x256⟩ :: [] := by
  sl_kernel_rfl

/-- So the last point leaves the CRF row 32 steps on. -/
theorem row0_C (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : ¬cond0_0 i) (hc1 : cond0_1 i)
  (x0 : Vec F S32x1 .i32) (x1 x2 : Vec F S32x256 .i32) (x3 x4 : Vec F S32x256 .f32) (x5 : Vec F S32x5x32x256 .bf16) (xs0 xs1 : Vec F S32x256 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = crfPoint x5 xs0 := by
  unfold sout0_C_0
  rw [pieces0_C, View.read_writes_full, cast_row]
  rw [row_eq arg10, crfAt_eq]
  rfl

/-- The piece the last point stores last into the CTC row's scratch: the 32 steps, from the row it loaded. -/
theorem pieces1_C (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : ¬cond0_0 i) (hc1 : cond0_1 i)
  (x0 : Vec F S32x1 .i32) (x1 x2 : Vec F S32x256 .i32) (x3 x4 : Vec F S32x256 .f32) (x5 : Vec F S32x5x32x256 .bf16) (xs0 xs1 : Vec F S32x256 .f32) :
    (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1
      = ⟨Rect.unit (s := S32x256) ![0, 0] S32x256.size inb_S32x256_S32x256_0_0, shapeCast S32x256 (steps (ctcAt (k0_pay5 (View.readAt (Elt F) arg2.view (Rect.unit (s := S32x256) ![0, 0] S32x256.size inb_S32x256_S32x256_0_0).toLoadRect (harg2.unread x1))) (k0_pay6 (View.readAt (Elt F) arg3.view (Rect.unit (s := S32x256) ![0, 0] S32x256.size inb_S32x256_S32x256_0_0).toLoadRect (harg3.unread x2))) arg6 harg6 x5)
        (View.readAt (Elt F) arg11.view (Rect.unit (s := S32x256) ![0, 0] S32x256.size inb_S32x256_S32x256_0_0).toLoadRect (harg11.unread xs1)) 32 (by decide)) shapeCasts_S32x256_S32x256⟩ :: [] := by
  sl_kernel_rfl

/-- So the last point leaves the CTC row 32 steps on. -/
theorem row1_C (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : ¬cond0_0 i) (hc1 : cond0_1 i)
  (x0 : Vec F S32x1 .i32) (x1 x2 : Vec F S32x256 .i32) (x3 x4 : Vec F S32x256 .f32) (x5 : Vec F S32x5x32x256 .bf16) (xs0 xs1 : Vec F S32x256 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = ctcPoint x1 x2 x5 xs1 := by
  unfold sout0_C_1
  rw [pieces1_C, View.read_writes_full, cast_row]
  rw [row_eq arg11, states_eq arg2, bases_eq arg3, ctcAt_eq]
  rfl

/-- The piece the last point stores into the block of losses: the closing arithmetic on its two rows and the lengths. -/
theorem pieces8_C (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : ¬cond0_0 i) (hc1 : cond0_1 i)
  (x0 : Vec F S32x1 .i32) (x1 x2 : Vec F S32x256 .i32) (x3 x4 : Vec F S32x256 .f32) (x5 : Vec F S32x5x32x256 .bf16) (xs0 xs1 : Vec F S32x256 .f32) :
    (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1
      = [⟨Rect.unit (s := S8x128) ![0, 0] S8x128.size inb_S8x128_S8x128_0_0, k0_pay1 (iota .tc S32x256 32 [1] iota_S32x256_d1_w32)
          (steps (crfAt arg6 harg6 x5) (View.readAt (Elt F) arg10.view (Rect.unit (s := S32x256) ![0, 0] S32x256.size inb_S32x256_S32x256_0_0).toLoadRect (harg10.unread xs0)) 32 (by decide))
          (steps (ctcAt (k0_pay5 (View.readAt (Elt F) arg2.view (Rect.unit (s := S32x256) ![0, 0] S32x256.size inb_S32x256_S32x256_0_0).toLoadRect (harg2.unread x1))) (k0_pay6 (View.readAt (Elt F) arg3.view (Rect.unit (s := S32x256) ![0, 0] S32x256.size inb_S32x256_S32x256_0_0).toLoadRect (harg3.unread x2))) arg6 harg6 x5) (View.readAt (Elt F) arg11.view (Rect.unit (s := S32x256) ![0, 0] S32x256.size inb_S32x256_S32x256_0_0).toLoadRect (harg11.unread xs1)) 32 (by decide)) (View.readAt (Elt F) arg1.view (Rect.unit (s := S32x1) ![0, 0] S32x1.size inb_S32x1_S32x1_0_0).toLoadRect (harg1.unread x0))⟩] := by
  sl_kernel_rfl

/-- So the last point's block of losses is the closing arithmetic on the rows it leaves. -/
theorem loss_C (c : Dev nD) (i : grid0.Coords)
  (arg1 : Memref sig .tc .vmem S32x1 .i32) (harg1 : arg1.IsWhole)
  (arg2 : Memref sig .tc .vmem S32x256 .i32) (harg2 : arg2.IsWhole)
  (arg3 : Memref sig .tc .vmem S32x256 .i32) (harg3 : arg3.IsWhole)
  (arg4 : Memref sig .tc .vmem S32x256 .f32) (harg4 : arg4.IsWhole)
  (arg5 : Memref sig .tc .vmem S32x256 .f32) (harg5 : arg5.IsWhole)
  (arg6 : Memref sig .tc .vmem S32x5x32x256 .bf16) (harg6 : arg6.IsWhole)
  (arg7 : Memref sig .tc .vmem S32x256 .f32) (harg7 : arg7.IsWhole)
  (arg8 : Memref sig .tc .vmem S32x256 .f32) (harg8 : arg8.IsWhole)
  (arg9 : Memref sig .tc .vmem S8x128 .f32) (harg9 : arg9.IsWhole)
  (arg10 : Memref sig .tc .vmem S32x256 .f32) (harg10 : arg10.IsWhole)
  (arg11 : Memref sig .tc .vmem S32x256 .f32) (harg11 : arg11.IsWhole)
  (hc0 : ¬cond0_0 i) (hc1 : cond0_1 i)
  (x0 : Vec F S32x1 .i32) (x1 x2 : Vec F S32x256 .i32) (x3 x4 : Vec F S32x256 .f32) (x5 : Vec F S32x5x32x256 .bf16) (xs0 xs1 : Vec F S32x256 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1
      = k0_pay1 (iota .tc S32x256 32 [1] iota_S32x256_d1_w32) (crfPoint x5 xs0) (ctcPoint x1 x2 x5 xs1) x0 := by
  unfold out0_C_8
  rw [pieces8_C, View.read_writes_full, row_eq arg10, row_eq arg11, states_eq arg2, bases_eq arg3, col_eq arg1, crfAt_eq, ctcAt_eq]
  rfl

end Cert.KernelIdeal.Gen.Step

end
-- ==== Proof.Crf.Rows.lean ====
/- The grid's points one after the other: the two carried rows after each point, the block of losses the last point
   leaves, and the result array, which ends holding it. The blocks a point reads: the lengths, the states and the bases
   are the whole arrays, the planes are the 32 steps from 32 times the point. -/
module

public import proofs.«01_k».proof.Proof.Crf.Point
public import proofs.«01_k».proof.Proof.Gen.KernelIdeal.Run
public import proofs.«01_k».proof.Proof.Gen.KernelIdeal.Points
public import Idealize.ShloMosaic.Lib.Pipeline.Value

@[expose] public section

set_option maxRecDepth 16384

noncomputable section

namespace Cert.KernelIdeal.Gen.Step

open Idealize.ShloMosaic Idealize.ShloMosaic.TcCoe Idealize.ShloMosaic.Tactic Idealize.SL.Sem
open Idealize.ShloMosaic.Pipeline (Dat)

variable {F : FTy → Type} [FloatOps F] [Named F]
variable (m : (ℓ : Loc nD τ sig) → Buf (Elt F) ℓ)

/-- The CRF row after point `n`. -/
def crfRow (c : Dev nD) : (n : ℕ) → n < cfg0.N → FVec F S32x256 .f32
  | 0, h => crfPoint (iblk m c 5 ⟨0, h⟩) k0_pay2
  | n + 1, h => crfPoint (iblk m c 5 ⟨n + 1, h⟩) (crfRow c n (Nat.lt_of_succ_lt h))

/-- The CTC row after point `n`. -/
def ctcRow (c : Dev nD) : (n : ℕ) → n < cfg0.N → FVec F S32x256 .f32
  | 0, h => ctcPoint (iblk m c 1 ⟨0, h⟩) (iblk m c 2 ⟨0, h⟩) (iblk m c 5 ⟨0, h⟩) k0_pay3
  | n + 1, h => ctcPoint (iblk m c 1 ⟨n + 1, h⟩) (iblk m c 2 ⟨n + 1, h⟩) (iblk m c 5 ⟨n + 1, h⟩) (ctcRow c n (Nat.lt_of_succ_lt h))

/-- The first point leaves the CRF row 32 steps on from zero. -/
theorem crf_first (c : Dev nD) (t : Fin cfg0.N) (h0 : t.val % 16 = 0) (h1 : ¬t.val % 16 = 15) :
    (outsAt0 m c t.val t.isLt).2.2.2.1 = crfPoint (iblk m c 5 t) k0_pay2 := by
  rw [outsAt0_A m c t h0 h1]; dsimp only; rw [row0_A]

/-- The first point leaves the CTC row 32 steps on from its start. -/
theorem ctc_first (c : Dev nD) (t : Fin cfg0.N) (h0 : t.val % 16 = 0) (h1 : ¬t.val % 16 = 15) :
    (outsAt0 m c t.val t.isLt).2.2.2.2 = ctcPoint (iblk m c 1 t) (iblk m c 2 t) (iblk m c 5 t) k0_pay3 := by
  rw [outsAt0_A m c t h0 h1]; dsimp only; rw [row1_A]

/-- Every later point leaves the CRF row 32 steps on from what the point before left. -/
theorem crf_later (c : Dev nD) (t : Fin cfg0.N) (h0 : ¬t.val % 16 = 0) :
    (outsAt0 m c t.val t.isLt).2.2.2.1
      = crfPoint (iblk m c 5 t) (outsAt0 m c (t.val - 1) (Nat.lt_of_le_of_lt (Nat.sub_le _ _) t.isLt)).2.2.2.1 := by
  by_cases h1 : t.val % 16 = 15
  · rw [outsAt0_C m c t h0 h1]; dsimp only; rw [row0_C]
  · rw [outsAt0_B m c t h0 h1]; dsimp only; rw [row0_B]

/-- Every later point leaves the CTC row 32 steps on from what the point before left. -/
theorem ctc_later (c : Dev nD) (t : Fin cfg0.N) (h0 : ¬t.val % 16 = 0) :
    (outsAt0 m c t.val t.isLt).2.2.2.2 = ctcPoint (iblk m c 1 t) (iblk m c 2 t) (iblk m c 5 t)
      (outsAt0 m c (t.val - 1) (Nat.lt_of_le_of_lt (Nat.sub_le _ _) t.isLt)).2.2.2.2 := by
  by_cases h1 : t.val % 16 = 15
  · rw [outsAt0_C m c t h0 h1]; dsimp only; rw [row1_C]
  · rw [outsAt0_B m c t h0 h1]; dsimp only; rw [row1_B]

/-- The last point leaves the closing arithmetic on the rows it leaves. -/
theorem loss_last (c : Dev nD) (t : Fin cfg0.N) (h0 : ¬t.val % 16 = 0) (h1 : t.val % 16 = 15) :
    (outsAt0 m c t.val t.isLt).2.2.1 = k0_pay1 (iota .tc S32x256 32 [1] iota_S32x256_d1_w32)
      (outsAt0 m c t.val t.isLt).2.2.2.1 (outsAt0 m c t.val t.isLt).2.2.2.2 (iblk m c 0 t) := by
  rw [crf_later m c t h0, ctc_later m c t h0, outsAt0_C m c t h0 h1]; dsimp only; rw [loss_C]

/-- The scratches after point `n` hold the two rows. -/
theorem scratch_eq (c : Dev nD) : ∀ (n : ℕ) (h : n < cfg0.N),
    (outsAt0 m c n h).2.2.2.1 = crfRow m c n h ∧ (outsAt0 m c n h).2.2.2.2 = ctcRow m c n h
  | 0, h => ⟨crf_first m c ⟨0, h⟩ rfl (by dsimp only; decide), ctc_first m c ⟨0, h⟩ rfl (by dsimp only; decide)⟩
  | n + 1, h => by
    have hN : cfg0.N = 16 := N_0
    have h0 : ¬(⟨n + 1, h⟩ : Fin cfg0.N).val % 16 = 0 := by dsimp only; omega
    have ih := scratch_eq c n (Nat.lt_of_succ_lt h)
    exact ⟨(crf_later m c ⟨n + 1, h⟩ h0).trans (congrArg (crfPoint _) ih.1),
      (ctc_later m c ⟨n + 1, h⟩ h0).trans (congrArg (ctcPoint _ _ _) ih.2)⟩

/-- The grid has sixteen points. -/
theorem h15 : 15 < cfg0.N := by rw [show cfg0.N = 16 from N_0]; decide

/-- The last point. -/
abbrev last : Fin cfg0.N := ⟨15, h15⟩

/-- The block of losses: the closing arithmetic on the rows after the last point. -/
def lossBlock (c : Dev nD) : FVec F S8x128 .f32 :=
  k0_pay1 (iota .tc S32x256 32 [1] iota_S32x256_d1_w32) (crfRow m c 15 h15) (ctcRow m c 15 h15) (iblk m c 0 last)

/-- The last point leaves it. -/
theorem loss_eq (c : Dev nD) : (outsAt0 m c 15 h15).2.2.1 = lossBlock m c := by
  have e := loss_last m c last (by dsimp only; decide) rfl
  have ih := scratch_eq m c 15 h15
  exact e.trans (by rw [show (outsAt0 m c last.val last.isLt).2.2.2.1 = _ from ih.1, show (outsAt0 m c last.val last.isLt).2.2.2.2 = _ from ih.2]; rfl)

/-- The one write-back, at the last point, writes the block of losses over the whole result array. -/
theorem flushed_eq (c : Dev nD) (t : Fin cfg0.N) (hf : (cfg0.win 8).flush t = true) :
    (dats m 0 c).flushed 8 t = ((cfg0.win 8).blk t).view.read (Elt F) (lossBlock m c : Buf (Elt F) ((c : Thread nD τ).loc main_v38_2)) := by
  have hN : cfg0.N = 16 := N_0
  have h3 : t.val = 15 := by have := (flush0_8 t).mp hf; have := t.isLt; omega
  obtain rfl : t = last := Fin.ext h3
  show (cfg0.win 8).cut (grid0.coords last) ((dats m 0 c).after 8 last) = _
  rw [after0_8, loss_eq]
  have hz' : (fun a => win0_8.index last a * main_v38_2.ty.shape.size a) = fun _ => 0 := funext fun a => by fin_cases a <;> rfl
  exact (Memref.read_access_unit_zero (Elt F) main_v38_2 hz' (fun a => by rw [congrFun hz' a]; simp) (lossBlock m c : Buf (Elt F) ((c : Thread nD τ).loc main_v38_2))).symm

/-- So the result array ends holding the block of losses. -/
theorem final_loss (c : Dev nD) : (dats m 0 c).arrAt 8 cfg0.N = (lossBlock m c : Buf (Elt F) ((c : Thread nD τ).loc main_v38_2)) :=
  (dats m 0 c).arrAt_eq_of_cover 8 (lossBlock m c : Buf (Elt F) ((c : Thread nD τ).loc main_v38_2)) (flushed_eq m c) fun i =>
    ⟨last, (flush0_8 last).mpr rfl, by
      show i ∈ ((View.whole main_v38_2).slice (win0_8.rect last)).set
      rw [View.set_slice_whole, Rect.mem_set_unit]
      intro a
      have h0 : (i 0 : Nat) < 8 := (i 0).isLt
      have h1 : (i 1 : Nat) < 128 := (i 1).isLt
      match a with
      | ⟨0, _⟩ => show win0_8.index last 0 * win0_8.size 0 ≤ (i 0 : Nat) ∧ (i 0 : Nat) < win0_8.index last 0 * win0_8.size 0 + win0_8.xsize (grid0.coords last) 0
                  rw [show win0_8.index last 0 * win0_8.size 0 = 0 from rfl, show win0_8.xsize (grid0.coords last) 0 = 8 from rfl]; omega
      | ⟨1, _⟩ => show win0_8.index last 1 * win0_8.size 1 ≤ (i 1 : Nat) ∧ (i 1 : Nat) < win0_8.index last 1 * win0_8.size 1 + win0_8.xsize (grid0.coords last) 1
                  rw [show win0_8.index last 1 * win0_8.size 1 = 0 from rfl, show win0_8.xsize (grid0.coords last) 1 = 128 from rfl]; omega⟩

/-- The lengths' block is the whole column, at every point. -/
theorem iblk0 (c : Dev nD) (t : Fin cfg0.N) : iblk m c 0 t = V m c (Pipeline.arrRef spec0 0) := by
  have hz' : (fun a => win0_0.index t a * (Pipeline.arrRef spec0 0).ty.shape.size a) = fun _ => 0 := funext fun a => by fin_cases a <;> rfl
  exact Memref.read_access_unit_zero (Elt F) (Pipeline.arrRef spec0 0) hz' (fun a => by rw [congrFun hz' a]; simp) _

/-- The states' block is the whole array, at every point. -/
theorem iblk1 (c : Dev nD) (t : Fin cfg0.N) : iblk m c 1 t = V m c (Pipeline.arrRef spec0 1) := by
  have hz' : (fun a => win0_1.index t a * (Pipeline.arrRef spec0 1).ty.shape.size a) = fun _ => 0 := funext fun a => by fin_cases a <;> rfl
  exact Memref.read_access_unit_zero (Elt F) (Pipeline.arrRef spec0 1) hz' (fun a => by rw [congrFun hz' a]; simp) _

/-- The bases' block is the whole array, at every point. -/
theorem iblk2 (c : Dev nD) (t : Fin cfg0.N) : iblk m c 2 t = V m c (Pipeline.arrRef spec0 2) := by
  have hz' : (fun a => win0_2.index t a * (Pipeline.arrRef spec0 2).ty.shape.size a) = fun _ => 0 := funext fun a => by fin_cases a <;> rfl
  exact Memref.read_access_unit_zero (Elt F) (Pipeline.arrRef spec0 2) hz' (fun a => by rw [congrFun hz' a]; simp) _

/-- An index of the array of planes, by its four coordinates. -/
def planeAt (t : Fin 512) (d : Fin 5) (n : Fin 32) (l : Fin 256) : S512x5x32x256.Idx :=
  fun a => match a with
    | ⟨0, _⟩ => t
    | ⟨1, _⟩ => d
    | ⟨2, _⟩ => n
    | ⟨3, _⟩ => l

/-- Where plane `d` of step `j` of point `t` lies in the array of planes. -/
def planeIdx (t : Fin cfg0.N) (j d : ℕ) (hj : j < 32) (hd : d < 5) (n : Fin 32) (l : Fin 256) : S512x5x32x256.Idx :=
  planeAt ⟨32 * t.val + j, by have := t.isLt; have hN : cfg0.N = 16 := N_0; omega⟩ ⟨d, hd⟩ n l

/-- The planes' block at point `t` is the array's 32 steps from `32 t`. -/
theorem iblk5 (c : Dev nD) (t : Fin cfg0.N) (j d : ℕ) (hj : j < 32) (hd : d < 5) (y : S1x1x32x256.Idx) :
    planeOf (iblk m c 5 t) j d hj hd y = (V m c (Pipeline.arrRef spec0 5) : Vec F S512x5x32x256 .bf16) (planeIdx t j d hj hd (y 2) (y 3)) := by
  refine congrArg (V m c (Pipeline.arrRef spec0 5) : Vec F S512x5x32x256 .bf16) (funext fun a => Fin.ext ?_)
  have y0 : (y 0).val < 1 := (y 0).isLt
  have y1 : (y 1).val < 1 := (y 1).isLt
  have hN : cfg0.N = 16 := N_0
  have ht := t.isLt
  match a with
  | ⟨0, _⟩ =>
    show win0_5.index t 0 * 32 + 1 * (j + 1 * (y 0).val) = 32 * t.val + j
    have : win0_5.index t 0 = t.val := (by decide +kernel : ∀ t : Fin grid0.N, win0_5.index t 0 = t.val) t
    rw [this]; omega
  | ⟨1, _⟩ => show 0 * 5 + 1 * (d + 1 * (y 1).val) = d; omega
  | ⟨2, _⟩ => show 0 * 32 + 1 * (0 + 1 * (y 2).val) = (y 2).val; omega
  | ⟨3, _⟩ => show 0 * 256 + 1 * (0 + 1 * (y 3).val) = (y 3).val; omega

end Cert.KernelIdeal.Gen.Step

end
-- ==== Proof.Spec.Logs.lean ====
/- The extended reals the two programs compute with, on the values that occur: scaled logarithms of non-negative
   weights (the logarithm of zero is −∞), and the sums of exponentials under a logarithm that both programs take
   after subtracting a real number. -/
module

public import Idealize.ShloMosaic.PureOps.Ideal

@[expose] public section

noncomputable section

namespace Cert.CrfCtc

open Idealize.ShloMosaic

/-- The base-two logarithm of e. -/
abbrev L : ℝ := (Real.log 2)⁻¹

/-- The natural logarithm of two is positive. -/
theorem ln2_pos : 0 < Real.log 2 := Real.log_pos (by norm_num)

/-- So is its inverse. -/
theorem L_pos : 0 < L := inv_pos.mpr ln2_pos

/-- Two to the power `r · L` is `e` to the power `r`. -/
theorem exp2_L (r : ℝ) : Ideal.exp2 (((r * L : ℝ)) : EReal) = ((Real.exp r : ℝ) : EReal) := by
  rw [Ideal.exp2_coe]
  congr 1
  show (2 : ℝ) ^ (r * L) = Real.exp r
  rw [Real.rpow_def_of_pos (by norm_num)]
  congr 1
  have := ln2_pos.ne'
  field_simp

/-- The logarithm of a positive real. -/
theorem log_pos {r : ℝ} (h : 0 < r) : Ideal.log (r : EReal) = ((Real.log r : ℝ) : EReal) := by
  rw [Ideal.log_coe, if_neg (not_le.mpr h)]

/-- `c` times the logarithm of a weight: −∞ for the weight zero. -/
def lgs (c w : ℝ) : EReal := if w = 0 then ⊥ else ((c * Real.log w : ℝ) : EReal)

/-- The scaled logarithm of no weight is −∞. -/
theorem lgs_zero (c : ℝ) : lgs c 0 = ⊥ := if_pos rfl

/-- The scaled logarithm of a weight that is not zero is a real. -/
theorem lgs_of_ne {c w : ℝ} (h : w ≠ 0) : lgs c w = ((c * Real.log w : ℝ) : EReal) := if_neg h

/-- The scaled logarithm of one is zero. -/
theorem lgs_one (c : ℝ) : lgs c 1 = 0 := by
  rw [lgs_of_ne one_ne_zero, Real.log_one, mul_zero]; rfl

/-- Adding `c · x` to a scaled logarithm multiplies the weight by `e ^ x`. -/
theorem lgs_add (c w x : ℝ) (hw : 0 ≤ w) : lgs c w + ((c * x : ℝ) : EReal) = lgs c (w * Real.exp x) := by
  rcases hw.eq_or_lt with h | h
  · rw [← h, zero_mul, lgs_zero, EReal.bot_add]
  · rw [lgs_of_ne h.ne', lgs_of_ne (mul_pos h (Real.exp_pos x)).ne', Real.log_mul h.ne' (Real.exp_pos x).ne', Real.log_exp, mul_add,
      EReal.coe_add]

/-- Scaling a scaled logarithm. -/
theorem mul_lgs {a : ℝ} (ha : 0 < a) (c w : ℝ) : (a : EReal) * lgs c w = lgs (a * c) w := by
  by_cases h : w = 0
  · rw [h, lgs_zero, lgs_zero, EReal.coe_mul_bot_of_pos ha]
  · rw [lgs_of_ne h, lgs_of_ne h, ← EReal.coe_mul, mul_assoc]

/-- One weight's power of two over the larger logarithm. -/
theorem exp2_sub_lgs (u m : ℝ) (hu : 0 ≤ u) : Ideal.exp2 (lgs L u - ((L * m : ℝ) : EReal)) = ((u * Real.exp (-m) : ℝ) : EReal) := by
  rcases hu.eq_or_lt with h | h
  · rw [← h, zero_mul, lgs_zero, EReal.bot_sub]; rfl
  · rw [lgs_of_ne h.ne', ← EReal.coe_sub, show L * Real.log u - L * m = (Real.log u - m) * L by ring, exp2_L, sub_eq_add_neg,
      Real.exp_add, Real.exp_log h]

/-- The larger of two scaled logarithms is that of the larger weight. -/
theorem max_lgs {c : ℝ} (hc : 0 < c) (u v : ℝ) (hu : 0 ≤ u) (hv : 0 ≤ v) : max (lgs c u) (lgs c v) = lgs c (max u v) := by
  have mono : ∀ a b : ℝ, 0 ≤ a → a ≤ b → lgs c a ≤ lgs c b := by
    intro a b ha hab
    rcases ha.eq_or_lt with h | h
    · rw [← h, lgs_zero]; exact bot_le
    · rw [lgs_of_ne h.ne', lgs_of_ne (h.trans_le hab).ne']
      exact EReal.coe_le_coe_iff.mpr (mul_le_mul_of_nonneg_left (Real.log_le_log h hab) hc.le)
  rcases le_total u v with h | h
  · rw [max_eq_right h, max_eq_right (mono u v hu h)]
  · rw [max_eq_left h, max_eq_left (mono v u hv h)]

/-- The kernel's sum of two weights: in base two, over the larger logarithm. -/
theorem lae2_lgs (u v : ℝ) (hu : 0 ≤ u) (hv : 0 ≤ v) :
    max (lgs L u) (lgs L v) + Ideal.log (Ideal.exp2 (lgs L u - max (lgs L u) (lgs L v)) + Ideal.exp2 (lgs L v - max (lgs L u) (lgs L v)))
      * (L : EReal) = lgs L (u + v) := by
  rw [max_lgs L_pos u v hu hv]
  rcases (le_max_of_le_left hu : (0 : ℝ) ≤ max u v).eq_or_lt with h | h
  · have hu0 : u = 0 := le_antisymm (by rw [h]; exact le_max_left _ _) hu
    have hv0 : v = 0 := le_antisymm (by rw [h]; exact le_max_right _ _) hv
    rw [← h, hu0, hv0, add_zero, lgs_zero, EReal.bot_add]
  · have hs : 0 < u + v := by
      rcases le_total u v with g | g
      · rw [max_eq_right g] at h; linarith
      · rw [max_eq_left g] at h; linarith
    rw [lgs_of_ne h.ne', exp2_sub_lgs u _ hu, exp2_sub_lgs v _ hv, ← EReal.coe_add, ← add_mul, log_pos (mul_pos hs (Real.exp_pos _)),
      ← EReal.coe_mul, ← EReal.coe_add, lgs_of_ne hs.ne', Real.log_mul hs.ne' (Real.exp_pos _).ne', Real.log_exp]
    congr 1
    ring

end Cert.CrfCtc
end
-- ==== Proof.Spec.Rows.lean ====
/- The loss of one sequence over the real numbers: the forward recursion of the CRF, whose last row gives the
   logarithm of the normaliser, and the forward recursion of the target's own path, kept as a weight (the exponential
   of the CTC row). Both programs compute these: the kernel in base two and without the normaliser, the reference in
   base e and with the normaliser spread over the steps. -/
module

public import proofs.«01_k».proof.Proof.Spec.Logs

@[expose] public section

noncomputable section

namespace Cert.CrfCtc

open Idealize.ShloMosaic

/-- The state an edge comes from: edge 0 stays, edge `j + 1` comes from state `64 j + s / 4`. -/
def src (s j : ℕ) : ℕ := if j = 0 then s else 64 * (j - 1) + s / 4

/-- The sources are states. -/
theorem src_lt {s j : ℕ} (hs : s < 256) (hj : j < 5) : src s j < 256 := by
  unfold src; split <;> omega

/-- The CRF row: `x k (5 s + j)` is the score of edge `j` into state `s` at step `k`. -/
def crf (x : ℕ → ℕ → ℝ) : ℕ → ℕ → ℝ
  | 0, _ => 0
  | k + 1, s => Real.log (∑ j : Fin 5, Real.exp (x k (5 * s + j) + crf x k (src s j)))

/-- The logarithm of the normaliser. -/
def logZ (x : ℕ → ℕ → ℝ) : ℝ := Real.log (∑ s : Fin 256, Real.exp (crf x 512 s))

/-- The weight of reaching place `l` of the target in `k` steps, from the scores of staying and of moving. -/
def weight (st mv : ℕ → ℕ → ℝ) : ℕ → ℕ → ℝ
  | 0, l => if l = 0 then 1 else 0
  | k + 1, l => weight st mv k l * Real.exp (st k l) + if l = 0 then 0 else weight st mv k (l - 1) * Real.exp (mv k l)

/-- Weights are not negative. -/
theorem weight_nonneg (st mv : ℕ → ℕ → ℝ) (k l : ℕ) : 0 ≤ weight st mv k l := by
  induction k generalizing l with
  | zero => unfold weight; split <;> norm_num
  | succ k ih =>
    unfold weight
    refine add_nonneg (mul_nonneg (ih l) (Real.exp_pos _).le) ?_
    split
    · exact le_rfl
    · exact mul_nonneg (ih _) (Real.exp_pos _).le

/-- Taking `c` from every score takes `k c` from the logarithm of a weight after `k` steps. -/
theorem weight_shift (st mv : ℕ → ℕ → ℝ) (c : ℝ) (k l : ℕ) :
    weight (fun t l => st t l - c) (fun t l => mv t l - c) k l = weight st mv k l * Real.exp (-(k * c)) := by
  induction k generalizing l with
  | zero => simp [weight]
  | succ k ih =>
    have e : ∀ y : ℝ, Real.exp (-(k * c)) * Real.exp (y - c) = Real.exp y * Real.exp (-((k + 1 : ℕ) * c)) := by
      intro y
      rw [← Real.exp_add, ← Real.exp_add]
      congr 1
      push_cast
      ring
    simp only [weight, ih]
    rw [mul_assoc, e, add_mul]
    split
    · simp [mul_assoc]
    · rw [mul_assoc (weight st mv k (l - 1)), e, mul_assoc, mul_assoc]

/-- A base: the digit at place `l` of the target, from zero. Four bases read as one number are a state. -/
def state (δ : ℕ → ℕ) (l : ℕ) : ℕ := 64 * δ l + 16 * δ (l + 1) + 4 * δ (l + 2) + δ (l + 3)

/-- A number of four digits is a state. -/
theorem state_lt {δ : ℕ → ℕ} (h : ∀ l, δ l < 4) (l : ℕ) : state δ l < 256 := by
  have := h l; have := h (l + 1); have := h (l + 2); have := h (l + 3)
  unfold state; omega

/-- The score of staying at place `l`. -/
def staying (x : ℕ → ℕ → ℝ) (δ : ℕ → ℕ) (k l : ℕ) : ℝ := x k (5 * state δ l)

/-- The score of moving to place `l` from the place before it. -/
def moving (x : ℕ → ℕ → ℝ) (δ : ℕ → ℕ) (k l : ℕ) : ℝ := x k (5 * state δ l + (δ (l - 1) + 1))

/-- The weight of the target's path after all 512 steps, at its last place. -/
def pathWeight (x : ℕ → ℕ → ℝ) (δ : ℕ → ℕ) (n : ℕ) : ℝ := weight (staying x δ) (moving x δ) 512 (n - 4)

/-- The loss of one sequence of `n` bases. -/
def seqLoss (x : ℕ → ℕ → ℝ) (δ : ℕ → ℕ) (n : ℕ) : EReal :=
  Ideal.div (0 - (lgs 1 (pathWeight x δ n) - ((logZ x : ℝ) : EReal))) ((n : ℝ) : EReal)

/-- The mean loss of the 32 sequences. -/
def meanLoss (x : Fin 32 → ℕ → ℕ → ℝ) (δ : Fin 32 → ℕ → ℕ) (n : Fin 32 → ℕ) : EReal :=
  Ideal.div (∑ b : Fin 32, seqLoss (x b) (δ b) (n b)) ((32 : ℝ) : EReal)

/-! ## The kernel's forms -/

/-- One step of the CRF row in base two, over the state's own row. -/
theorem crf_step_two (p0 p1 p2 p3 p4 c0 c1 c2 c3 c4 : ℝ) :
    ((c0 * L : ℝ) : EReal) + Ideal.log (Ideal.exp2 ((p0 : EReal) * (L : EReal))
      + Ideal.exp2 ((p1 : EReal) * (L : EReal) + (((c1 * L : ℝ) : EReal) - ((c0 * L : ℝ) : EReal)))
      + Ideal.exp2 ((p2 : EReal) * (L : EReal) + (((c2 * L : ℝ) : EReal) - ((c0 * L : ℝ) : EReal)))
      + Ideal.exp2 ((p3 : EReal) * (L : EReal) + (((c3 * L : ℝ) : EReal) - ((c0 * L : ℝ) : EReal)))
      + Ideal.exp2 ((p4 : EReal) * (L : EReal) + (((c4 * L : ℝ) : EReal) - ((c0 * L : ℝ) : EReal)))) * (L : EReal)
    = ((Real.log (Real.exp (p0 + c0) + Real.exp (p1 + c1) + Real.exp (p2 + c2) + Real.exp (p3 + c3) + Real.exp (p4 + c4)) * L : ℝ) : EReal) := by
  have e : ∀ p c : ℝ, Ideal.exp2 ((p : EReal) * (L : EReal) + (((c * L : ℝ) : EReal) - ((c0 * L : ℝ) : EReal)))
      = ((Real.exp (p + c) * Real.exp (-c0) : ℝ) : EReal) := by
    intro p c
    rw [← EReal.coe_mul, ← EReal.coe_sub, ← EReal.coe_add, show p * L + (c * L - c0 * L) = (p + c + -c0) * L by ring, exp2_L, Real.exp_add (p + c)]
  have e0 : Ideal.exp2 ((p0 : EReal) * (L : EReal)) = ((Real.exp (p0 + c0) * Real.exp (-c0) : ℝ) : EReal) := by
    rw [← EReal.coe_mul, exp2_L, ← Real.exp_add]; congr 2; ring
  have hs : 0 < Real.exp (p0 + c0) + Real.exp (p1 + c1) + Real.exp (p2 + c2) + Real.exp (p3 + c3) + Real.exp (p4 + c4) := by positivity
  rw [e0, e, e, e, e, ← EReal.coe_add, ← EReal.coe_add, ← EReal.coe_add, ← EReal.coe_add, ← add_mul, ← add_mul, ← add_mul, ← add_mul,
    log_pos (mul_pos hs (Real.exp_pos _)), ← EReal.coe_mul, ← EReal.coe_add, Real.log_mul hs.ne' (Real.exp_pos _).ne', Real.log_exp]
  congr 1
  ring

/-- The step's sum over the five edges, written out. -/
theorem crf_succ (x : ℕ → ℕ → ℝ) (k s : ℕ) :
    crf x (k + 1) s = Real.log (Real.exp (x k (5 * s) + crf x k s) + Real.exp (x k (5 * s + 1) + crf x k (s / 4))
      + Real.exp (x k (5 * s + 2) + crf x k (64 + s / 4)) + Real.exp (x k (5 * s + 3) + crf x k (128 + s / 4))
      + Real.exp (x k (5 * s + 4) + crf x k (192 + s / 4))) := by
  rw [crf, Fin.sum_univ_five]
  simp [src]

/-- The coercion of a sum of reals. -/
theorem coe_sum {ι : Type} (t : Finset ι) (f : ι → ℝ) : (((∑ i ∈ t, f i : ℝ)) : EReal) = ∑ i ∈ t, ((f i : ℝ) : EReal) := by
  classical
  induction t using Finset.induction_on with
  | empty => simp
  | insert a t ha ih => rw [Finset.sum_insert ha, Finset.sum_insert ha, EReal.coe_add, ih]

/-- The kernel's logarithm of a sum: in base two, over a real number. -/
theorem lse_two {ι : Type} [Fintype ι] [Nonempty ι] (c : ι → ℝ) (μ : ℝ) :
    ((Real.log 2 : ℝ) : EReal) * ((μ : EReal) + Ideal.log (∑ i, Ideal.exp2 (((c i * L : ℝ) : EReal) - (μ : EReal))) * (L : EReal))
      = ((Real.log (∑ i, Real.exp (c i)) : ℝ) : EReal) := by
  have h2 := ln2_pos.ne'
  have e : ∀ i, Ideal.exp2 (((c i * L : ℝ) : EReal) - (μ : EReal)) = ((Real.exp (c i) * Real.exp (-(μ * Real.log 2)) : ℝ) : EReal) := by
    intro i
    rw [← EReal.coe_sub, show c i * L - μ = (c i + -(μ * Real.log 2)) * L by unfold L; field_simp; ring, exp2_L, Real.exp_add]
  have hs : 0 < ∑ i, Real.exp (c i) := Finset.sum_pos (fun i _ => Real.exp_pos _) Finset.univ_nonempty
  simp only [e]
  rw [← coe_sum, ← Finset.sum_mul, log_pos (mul_pos hs (Real.exp_pos _)), ← EReal.coe_mul, ← EReal.coe_add, ← EReal.coe_mul,
    Real.log_mul hs.ne' (Real.exp_pos _).ne', Real.log_exp]
  congr 1
  unfold L
  field_simp
  ring

/-! ## The reference's forms -/

/-- The reference's logarithm of a sum: over a real number. -/
theorem lse_e {ι : Type} [Fintype ι] [Nonempty ι] (v : ι → ℝ) (t : ℝ) :
    Ideal.log (∑ i, Ideal.exp ((v i : EReal) - (t : EReal))) + (t : EReal) = ((Real.log (∑ i, Real.exp (v i)) : ℝ) : EReal) := by
  have e : ∀ i, Ideal.exp ((v i : EReal) - (t : EReal)) = ((Real.exp (v i) * Real.exp (-t) : ℝ) : EReal) := by
    intro i
    rw [← EReal.coe_sub, Ideal.exp_coe, sub_eq_add_neg, Real.exp_add]
  have hs : 0 < ∑ i, Real.exp (v i) := Finset.sum_pos (fun i _ => Real.exp_pos _) Finset.univ_nonempty
  simp only [e]
  rw [← coe_sum, ← Finset.sum_mul, log_pos (mul_pos hs (Real.exp_pos _)), ← EReal.coe_add, Real.log_mul hs.ne' (Real.exp_pos _).ne', Real.log_exp]
  congr 1
  ring

/-- What the reference takes under a logarithm of a sum is a real number: the largest if it is one, else zero. -/
theorem top_real (g : EReal) : ∃ t : ℝ, (if max g (-g) < ⊤ then g else 0) = (t : EReal) := by
  induction g with
  | bot => exact ⟨0, by simp⟩
  | top => exact ⟨0, by simp⟩
  | coe r =>
    by_cases h : max (r : EReal) (-(r : EReal)) < ⊤
    · exact ⟨r, if_pos h⟩
    · exact ⟨0, by rw [if_neg h]; rfl⟩

/-- The reference's sum of two weights: over the larger logarithm, by the difference of the two. -/
theorem lae_lgs (u v : ℝ) (hu : 0 ≤ u) (hv : 0 ≤ v) :
    max (lgs 1 u) (lgs 1 v) + Ideal.log1p (Ideal.exp (-(max (lgs 1 u - lgs 1 v) (-(lgs 1 u - lgs 1 v))))) = lgs 1 (u + v) := by
  have zero : Ideal.log1p (0 : EReal) = 0 := by
    show Ideal.log (1 + 0) = 0
    rw [add_zero, show (1 : EReal) = ((1 : ℝ) : EReal) from rfl, log_pos one_pos, Real.log_one]; rfl
  have etop : Ideal.exp (-(⊤ : EReal)) = 0 := rfl
  rcases hu.eq_or_lt with h | h
  · rw [← h, zero_add, lgs_zero, EReal.bot_sub, show max (⊥ : EReal) (-⊥) = ⊤ by simp, etop, zero, add_zero]
    exact max_eq_right bot_le
  rcases hv.eq_or_lt with g | g
  · rw [← g, add_zero, lgs_zero, lgs_of_ne h.ne', EReal.coe_sub_bot, show max (⊤ : EReal) (-⊤) = ⊤ by simp, etop, zero, add_zero]
    exact max_eq_left bot_le
  · have abs_form : ∀ r : ℝ, max (r : EReal) (-(r : EReal)) = ((|r| : ℝ) : EReal) := by
      intro r
      rw [← EReal.coe_neg, abs_eq_max_neg]
      exact (Monotone.map_max (f := fun r : ℝ => (r : EReal)) (fun a b h => EReal.coe_le_coe_iff.mpr h)).symm
    rw [max_lgs one_pos u v hu hv, lgs_of_ne h.ne', lgs_of_ne g.ne', lgs_of_ne (lt_max_of_lt_left h).ne', lgs_of_ne (add_pos h g).ne',
      ← EReal.coe_sub, abs_form, ← EReal.coe_neg, Ideal.exp_coe]
    show _ + Ideal.log (1 + _) = _
    rw [show (1 : EReal) = ((1 : ℝ) : EReal) from rfl, ← EReal.coe_add, log_pos (by positivity), ← EReal.coe_add]
    congr 1
    simp only [one_mul]
    rw [← Real.log_mul (lt_max_of_lt_left h).ne' (by positivity)]
    congr 1
    rcases le_total u v with w | w
    · rw [max_eq_right w, abs_of_nonpos (sub_nonpos.mpr (Real.log_le_log h w)), neg_neg, mul_add, mul_one, Real.exp_sub, Real.exp_log h, Real.exp_log g]
      field_simp
      ring
    · rw [max_eq_left w, abs_of_nonneg (sub_nonneg.mpr (Real.log_le_log g w)), neg_sub, mul_add, mul_one, Real.exp_sub, Real.exp_log h, Real.exp_log g]
      field_simp

/-- The reference spreads the normaliser over the steps; after all of them it has taken it once. -/
theorem normed_weight (x : ℕ → ℕ → ℝ) (δ : ℕ → ℕ) (n : ℕ) :
    lgs 1 (weight (fun t l => staying x δ t l - logZ x / 512) (fun t l => moving x δ t l - logZ x / 512) 512 (n - 4))
      = lgs 1 (pathWeight x δ n) - ((logZ x : ℝ) : EReal) := by
  have e : -((512 : ℕ) * (logZ x / 512) : ℝ) = -logZ x := by push_cast; ring
  have h := lgs_add 1 (pathWeight x δ n) (-logZ x) (weight_nonneg _ _ _ _)
  rw [one_mul] at h
  rw [weight_shift, e, sub_eq_add_neg, ← EReal.coe_neg, h]
  rfl

end Cert.CrfCtc
end
-- ==== Proof.Crf.Forward.lean ====
/- The kernel's two rows after each grid point, over the extended reals: the CRF row is the real recursion times the
   base-two logarithm of e, and the CTC row is the base-two logarithm of the weight of the target's path. -/
module

public import proofs.«01_k».proof.Proof.Crf.Read
public import proofs.«01_k».proof.Proof.Crf.Rows
public import proofs.«01_k».proof.Proof.Spec.Rows

@[expose] public section

noncomputable section

namespace Cert.KernelIdeal.Gen.Step

open Idealize.ShloMosaic Idealize.ShloMosaic.WordCmp Idealize.SL.Sem
open Cert.KernelIdeal Cert.KernelIdeal.Gen

/-- A property that each step carries on holds after all the steps. -/
theorem steps_ind {S : Type} (f : (j : ℕ) → j < 32 → S → S) (P : ℕ → S → Prop) (s : S) (h0 : P 0 s)
    (hstep : ∀ j hj a, P j a → P (j + 1) (f j hj a)) : ∀ (n : ℕ) (h : n ≤ 32), P n (steps f s n h)
  | 0, _ => h0
  | n + 1, h => hstep n h _ (steps_ind f P s h0 hstep n (Nat.le_of_succ_le h))

/-- What the arrays the call is given hold: the scores by step, edge, sequence and state; the state of each place of
    the target; and the base before each place, from one. -/
structure Holds (m : (l : Loc nD τ sig) → Buf (Elt Ideal) l) (c : Dev nD) (x : Fin 32 → ℕ → ℕ → ℝ) (δ : Fin 32 → ℕ → ℕ) : Prop where
  planes : ∀ (t : Fin 512) (d : Fin 5) (n : Fin 32) (s : Fin 256),
    (V m c (Pipeline.arrRef spec0 5) : Vec Ideal S512x5x32x256 .bf16) (planeAt t d n s) = ((x n t (5 * s + d) : ℝ) : EReal)
  states : ∀ (n : Fin 32) (l : Fin 256), l.val < 253 →
    (V m c (Pipeline.arrRef spec0 1) : IVec S32x256 32) (ix2 n l) = BitVec.ofNat 32 (CrfCtc.state (δ n) l)
  bases : ∀ (n : Fin 32) (l : Fin 256), l.val ≠ 0 → l.val < 253 →
    (V m c (Pipeline.arrRef spec0 2) : IVec S32x256 32) (ix2 n l) = BitVec.ofNat 32 (δ n (l.val - 1) + 1)
  digit : ∀ (n : Fin 32) (l : ℕ), δ n l < 4

variable {m : (l : Loc nD τ sig) → Buf (Elt Ideal) l} {c : Dev nD} {x : Fin 32 → ℕ → ℕ → ℝ} {δ : Fin 32 → ℕ → ℕ}

/-- The CRF row after `k` steps. -/
def CrfIs (x : Fin 32 → ℕ → ℕ → ℝ) (k : ℕ) (a : FVec Ideal S32x256 .f32) : Prop :=
  ∀ (n : Fin 32) (l : Fin 256), a (ix2 n l) = ((CrfCtc.crf (x n) k l * CrfCtc.L : ℝ) : EReal)

/-- The CTC row after `k` steps, inside the target. -/
def CtcIs (x : Fin 32 → ℕ → ℕ → ℝ) (δ : Fin 32 → ℕ → ℕ) (k : ℕ) (a : FVec Ideal S32x256 .f32) : Prop :=
  ∀ (n : Fin 32) (l : Fin 256), l.val < 253 →
    a (ix2 n l) = CrfCtc.lgs CrfCtc.L (CrfCtc.weight (CrfCtc.staying (x n) (δ n)) (CrfCtc.moving (x n) (δ n)) k l)

/-- The planes of a step, by number. -/
def planesOf (x : Vec Ideal S32x5x32x256 .bf16) (j : ℕ) (hj : j < 32) (d : ℕ) : FVec Ideal S32x256 .f32 :=
  scaled (planeOf x j (d % 5) hj (Nat.mod_lt _ (by decide)))

/-- A plane of a step holds its edge's scores. -/
theorem planes_at (H : Holds m c x δ) (t : Fin cfg0.N) (j : ℕ) (hj : j < 32) (d : ℕ) (hd : d < 5) (n : Fin 32) (l : Fin 256) :
    planesOf (iblk m c 5 t) j hj d (ix2 n l) = ((x n (32 * t.val + j) (5 * l + d) : ℝ) : EReal) * (CrfCtc.L : EReal) := by
  unfold planesOf
  rw [scaled_at, iblk5]
  refine congrArg (· * (CrfCtc.L : EReal)) ((H.planes _ _ n l).trans ?_)
  show ((x n (32 * t.val + j) (5 * l.val + d % 5) : ℝ) : EReal) = _
  rw [Nat.mod_eq_of_lt hd]

/-- A step carries the CRF row on. -/
theorem crf_step (H : Holds m c x δ) (t : Fin cfg0.N) (j : ℕ) (hj : j < 32) (a : FVec Ideal S32x256 .f32) (h : CrfIs x (32 * t.val + j) a) :
    CrfIs x (32 * t.val + (j + 1)) (crfStep (iblk m c 5 t) j hj a) := by
  intro n l
  show crf (planesOf (iblk m c 5 t) j hj 0) (planesOf (iblk m c 5 t) j hj 1) (planesOf (iblk m c 5 t) j hj 2) (planesOf (iblk m c 5 t) j hj 3)
    (planesOf (iblk m c 5 t) j hj 4) a (ix2 n l) = _
  rw [crf_at, planes_at H t j hj 0 (by omega), planes_at H t j hj 1 (by omega), planes_at H t j hj 2 (by omega), planes_at H t j hj 3 (by omega),
    planes_at H t j hj 4 (by omega), h n l, h n ⟨l.val / 4, _⟩, h n ⟨64 + l.val / 4, _⟩, h n ⟨128 + l.val / 4, _⟩, h n ⟨192 + l.val / 4, _⟩,
    ← Nat.add_assoc (32 * t.val) j 1, CrfCtc.crf_succ]
  exact CrfCtc.crf_step_two _ _ _ _ _ _ _ _ _ _

/-- A step carries the CTC row on. -/
theorem ctc_step (H : Holds m c x δ) (t : Fin cfg0.N) (j : ℕ) (hj : j < 32) (a : FVec Ideal S32x256 .f32) (h : CtcIs x δ (32 * t.val + j) a) :
    CtcIs x δ (32 * t.val + (j + 1)) (ctcStep (iblk m c 1 t) (iblk m c 2 t) (iblk m c 5 t) j hj a) := by
  intro n l hl
  have hk : CrfCtc.state (δ n) l < 256 := CrfCtc.state_lt (H.digit n) l
  have hs : (iblk m c 1 t : IVec S32x256 32) (ix2 n l) = BitVec.ofNat 32 (⟨CrfCtc.state (δ n) l, hk⟩ : Fin 256).val := by
    rw [iblk1]; exact H.states n l hl
  show ctc (iblk m c 1 t) (iblk m c 2 t) (planesOf (iblk m c 5 t) j hj 0) (planesOf (iblk m c 5 t) j hj 1) (planesOf (iblk m c 5 t) j hj 2)
    (planesOf (iblk m c 5 t) j hj 3) (planesOf (iblk m c 5 t) j hj 4) a (ix2 n l) = _
  have hstay : a (ix2 n l) + planesOf (iblk m c 5 t) j hj 0 (ix2 n ⟨CrfCtc.state (δ n) l, hk⟩)
      = CrfCtc.lgs CrfCtc.L (CrfCtc.weight (CrfCtc.staying (x n) (δ n)) (CrfCtc.moving (x n) (δ n)) (32 * t.val + j) l
          * Real.exp (CrfCtc.staying (x n) (δ n) (32 * t.val + j) l)) := by
    rw [planes_at H t j hj 0 (by omega), h n l hl, ← EReal.coe_mul, mul_comm (x n _ _)]
    exact CrfCtc.lgs_add _ _ _ (CrfCtc.weight_nonneg _ _ _ _)
  by_cases hl0 : l.val = 0
  · rw [ctc_at_zero (planesOf (iblk m c 5 t) j hj) _ _ a n l ⟨CrfCtc.state (δ n) l, hk⟩ hl0 hs, hstay, ← CrfCtc.lgs_zero CrfCtc.L]
    refine (CrfCtc.lae2_lgs _ _ (mul_nonneg (CrfCtc.weight_nonneg _ _ _ _) (Real.exp_pos _).le) le_rfl).trans ?_
    rw [← Nat.add_assoc (32 * t.val) j 1, CrfCtc.weight, if_pos hl0]
  · have hdig := H.digit n (l.val - 1)
    have hd : (iblk m c 2 t : IVec S32x256 32) (ix2 n l) = BitVec.ofNat 32 (δ n (l.val - 1) + 1) := by
      rw [iblk2]; exact H.bases n l hl0 hl
    rw [ctc_at (planesOf (iblk m c 5 t) j hj) _ _ a n l ⟨CrfCtc.state (δ n) l, hk⟩ (δ n (l.val - 1) + 1) hl hl0 (by omega) (by omega) hs hd, hstay]
    have hmove : a (ix2 n ⟨l.val - 1, by omega⟩) + planesOf (iblk m c 5 t) j hj (δ n (l.val - 1) + 1) (ix2 n ⟨CrfCtc.state (δ n) l, hk⟩)
        = CrfCtc.lgs CrfCtc.L (CrfCtc.weight (CrfCtc.staying (x n) (δ n)) (CrfCtc.moving (x n) (δ n)) (32 * t.val + j) (l.val - 1)
            * Real.exp (CrfCtc.moving (x n) (δ n) (32 * t.val + j) l)) := by
      rw [planes_at H t j hj _ (by omega), h n ⟨l.val - 1, _⟩ (by show l.val - 1 < 253; omega), ← EReal.coe_mul, mul_comm (x n _ _)]
      exact CrfCtc.lgs_add _ _ _ (CrfCtc.weight_nonneg _ _ _ _)
    rw [hmove]
    refine (CrfCtc.lae2_lgs _ _ (mul_nonneg (CrfCtc.weight_nonneg _ _ _ _) (Real.exp_pos _).le)
      (mul_nonneg (CrfCtc.weight_nonneg _ _ _ _) (Real.exp_pos _).le)).trans ?_
    rw [← Nat.add_assoc (32 * t.val) j 1, CrfCtc.weight, if_neg hl0]

/-- The CRF row starts at zero. -/
theorem crf_start (x : Fin 32 → ℕ → ℕ → ℝ) : CrfIs x 0 k0_pay2 := by
  intro n l
  pointwise [k0_pay2]
  rw [CrfCtc.crf, zero_mul]
  rfl

/-- The CTC row starts with one at the first place. -/
theorem ctc_start (x : Fin 32 → ℕ → ℕ → ℝ) (δ : Fin 32 → ℕ → ℕ) : CtcIs x δ 0 k0_pay3 := by
  intro n l hl
  pointwise [k0_pay3]
  rw [cmpi_eq_ofNat (b := 0) (by omega) (by omega), select_ofBool, CrfCtc.weight]
  by_cases h : l.val = 0
  · simp only [h, decide_true, ↓reduceIte]
    rw [CrfCtc.lgs_one]
  · simp only [h, decide_false, Bool.false_eq_true, ↓reduceIte]
    rw [CrfCtc.lgs_zero]
    rfl

/-- The CRF row after point `n`. -/
theorem crf_rows (H : Holds m c x δ) : ∀ (n : ℕ) (h : n < cfg0.N), CrfIs x (32 * (n + 1)) (crfRow m c n h)
  | 0, h => steps_ind _ (fun j a => CrfIs x (32 * 0 + j) a) _ (crf_start x) (crf_step H ⟨0, h⟩) 32 (le_refl 32)
  | n + 1, h => by
    refine steps_ind _ (fun j a => CrfIs x (32 * (n + 1) + j) a) _ ?_ (crf_step H ⟨n + 1, h⟩) 32 (le_refl 32)
    exact crf_rows H n _

/-- The CTC row after point `n`. -/
theorem ctc_rows (H : Holds m c x δ) : ∀ (n : ℕ) (h : n < cfg0.N), CtcIs x δ (32 * (n + 1)) (ctcRow m c n h)
  | 0, h => steps_ind _ (fun j a => CtcIs x δ (32 * 0 + j) a) _ (ctc_start x δ) (ctc_step H ⟨0, h⟩) 32 (le_refl 32)
  | n + 1, h => by
    refine steps_ind _ (fun j a => CtcIs x δ (32 * (n + 1) + j) a) _ ?_ (ctc_step H ⟨n + 1, h⟩) 32 (le_refl 32)
    exact ctc_rows H n _

end Cert.KernelIdeal.Gen.Step

end
-- ==== Proof.Spec.Fold.lean ====
/- The largest of a row, where the row is of reals, and where all but one entry is −∞; and a length read as a real. -/
module

public import proofs.«01_k».proof.Proof.Spec.Logs

@[expose] public section

noncomputable section

namespace Cert.CrfCtc

open Idealize.ShloMosaic

/-- The largest of a row of reals is a real. -/
theorem fold_real {ι : Type} [Fintype ι] [Nonempty ι] (r : ι → ℝ) :
    ∃ μ : ℝ, Finset.fold max (⊥ : EReal) (fun i => ((r i : ℝ) : EReal)) Finset.univ = (μ : EReal) := by
  obtain ⟨i, _, h⟩ := Finset.exists_mem_eq_sup (Finset.univ : Finset ι) Finset.univ_nonempty (fun i => ((r i : ℝ) : EReal))
  exact ⟨r i, h⟩

/-- The largest of a row that is −∞ but in one place is the entry there. -/
theorem fold_pick {ι : Type} [Fintype ι] [DecidableEq ι] (v : ι → EReal) (i : ι) :
    Finset.fold max (⊥ : EReal) (fun k => if k = i then v k else ⊥) Finset.univ = v i := by
  show Finset.univ.sup (fun k => if k = i then v k else ⊥) = v i
  refine le_antisymm (Finset.sup_le fun k _ => ?_) ?_
  · split
    · rename_i h; rw [h]
    · exact bot_le
  · have := Finset.le_sup (f := fun k => if k = i then v k else ⊥) (Finset.mem_univ i)
    rwa [if_pos rfl] at this

/-- The word of −∞ reads as −∞. -/
theorem bits_bot : Ideal.ofBits .f32 0xFF800000#32 = ⊥ := by simp [Ideal.ofBits, Ideal.ieee]

/-- The word of +∞ reads as +∞. -/
theorem bits_top : Ideal.ofBits .f32 0x7F800000#32 = ⊤ := by simp [Ideal.ofBits, Ideal.ieee]

/-- The word of 32 reads as 32. -/
theorem bits_32 : Ideal.ofBits .f32 0x42000000#32 = ((32 : ℝ) : EReal) := by
  simp [Ideal.ofBits, Ideal.ieee]
  rw [← EReal.coe_mul]
  norm_num

/-- The word of 512 reads as 512. -/
theorem bits_512 : Ideal.ofBits .f32 0x44000000#32 = ((512 : ℝ) : EReal) := by
  simp [Ideal.ofBits, Ideal.ieee]
  rw [← EReal.coe_mul]
  norm_num

/-- A small natural number, read as a float. -/
theorem sitofp_ofNat (n : ℕ) (h : n < 512) : FloatOps.sitofp (F := Ideal) .f32 (BitVec.ofNat 32 n) = ((n : ℝ) : EReal) := by
  show (((BitVec.ofNat 32 n).toInt : ℝ) : EReal) = _
  have : (BitVec.ofNat 32 n).toInt = n := by
    rw [BitVec.toInt_eq_toNat_cond, BitVec.toNat_ofNat]
    omega
  rw [this]
  norm_cast

end Cert.CrfCtc
end
-- ==== Proof.Crf.Loss.lean ====
/- The kernel's closing arithmetic over the extended reals: from the two rows after the last point it makes the mean
   of the losses of the 32 sequences. -/
module

public import proofs.«01_k».proof.Proof.Crf.Forward
public import proofs.«01_k».proof.Proof.Spec.Fold

@[expose] public section

noncomputable section

namespace Cert.KernelIdeal.Gen.Step

open Idealize.ShloMosaic Idealize.ShloMosaic.WordCmp Idealize.SL.Sem
open Cert.KernelIdeal Cert.KernelIdeal.Gen

/-- The normaliser's logarithm, as the kernel takes it from the CRF row. -/
theorem logZ_two (x : Fin 32 → ℕ → ℕ → ℝ) (a : FVec Ideal S32x256 .f32) (ha : CrfIs x 512 a) (n : Fin 32) :
    Named.named (F := Ideal) (φ := .f32) κ "ln2" 0x3F317218#32 *
      (Finset.fold max (Ideal.ofBits .f32 0xFF800000#32) (fun l => a (ix2 n l)) Finset.univ +
        Ideal.log (∑ s, FloatOps.exp2 (F := Ideal) (φ := .f32) (a (ix2 n s) - Finset.fold max (Ideal.ofBits .f32 0xFF800000#32) (fun l => a (ix2 n l)) Finset.univ))
          * Named.named (F := Ideal) (φ := .f32) κ "log2e" 0x3FB8AA3B#32)
      = ((CrfCtc.logZ (x n) : ℝ) : EReal) := by
  simp only [ha n]
  obtain ⟨μ, hμ⟩ := CrfCtc.fold_real (fun l : Fin 256 => CrfCtc.crf (x n) 512 l * CrfCtc.L)
  rw [CrfCtc.bits_bot, hμ]
  exact CrfCtc.lse_two (fun s : Fin 256 => CrfCtc.crf (x n) 512 s) μ

/-- The last place's entry of the CTC row, as the kernel picks it. -/
theorem picked_two (x : Fin 32 → ℕ → ℕ → ℝ) (δ : Fin 32 → ℕ → ℕ) (b : FVec Ideal S32x256 .f32) (hb : CtcIs x δ 512 b) (lens : IVec S32x1 32)
    (len : Fin 32 → ℕ) (hlen : ∀ n, lens (ix2 n 0) = BitVec.ofNat 32 (len n - 3)) (h4 : ∀ n, 4 ≤ len n) (h256 : ∀ n, len n ≤ 256) (n : Fin 32) :
    Named.named (F := Ideal) (φ := .f32) κ "ln2" 0x3F317218#32 *
      Finset.fold max (Ideal.ofBits .f32 0xFF800000#32) (fun l : Fin 256 => Scalar.select
        (IntOp.cmpi CmpIPredicate.eq (BitVec.ofNat 32 l.val) (IntOp.subi (lens (ix2 n 0)) 1#32)) (b (ix2 n l))
          (Named.named (F := Ideal) (φ := .f32) κ "neg" 0xFE967699#32)) Finset.univ
      = CrfCtc.lgs 1 (CrfCtc.pathWeight (x n) (δ n) (len n)) := by
  have h4 := h4 n
  have h256 := h256 n
  have e : IntOp.subi (lens (ix2 n 0)) 1#32 = BitVec.ofNat 32 (len n - 4) := by
    rw [hlen n]
    apply BitVec.eq_of_toNat_eq
    simp [IntOp.subi]
    omega
  have f : (fun l : Fin 256 => Scalar.select (IntOp.cmpi CmpIPredicate.eq (BitVec.ofNat 32 l.val) (IntOp.subi (lens (ix2 n 0)) 1#32)) (b (ix2 n l))
          (Named.named (F := Ideal) (φ := .f32) κ "neg" 0xFE967699#32)) = fun l => if l = (⟨len n - 4, by omega⟩ : Fin 256) then b (ix2 n l) else ⊥ := by
    funext l
    rw [e, cmpi_eq_ofNat (by omega) (by omega), select_ofBool]
    simp only [Fin.ext_iff, decide_eq_true_eq]
    rfl
  rw [f, CrfCtc.bits_bot, CrfCtc.fold_pick (fun l => b (ix2 n l)), hb n _ (by show len n - 4 < 253; omega)]
  refine (CrfCtc.mul_lgs CrfCtc.ln2_pos CrfCtc.L _).trans ?_
  rw [show Real.log 2 * CrfCtc.L = 1 from mul_inv_cancel₀ CrfCtc.ln2_pos.ne']
  rfl

/-- The block of losses holds the mean loss everywhere. -/
theorem loss_at (x : Fin 32 → ℕ → ℕ → ℝ) (δ : Fin 32 → ℕ → ℕ) (a b : FVec Ideal S32x256 .f32) (ha : CrfIs x 512 a) (hb : CtcIs x δ 512 b)
    (lens : IVec S32x1 32) (len : Fin 32 → ℕ) (hlen : ∀ n, lens (ix2 n 0) = BitVec.ofNat 32 (len n - 3)) (h4 : ∀ n, 4 ≤ len n)
    (h256 : ∀ n, len n ≤ 256) (i : Fin 8) (j : Fin 128) :
    k0_pay1 (iota .tc S32x256 32 [1] iota_S32x256_d1_w32) a b lens (ix2 i j) = CrfCtc.meanLoss x δ len := by
  have e : ∀ n, IntOp.addi (lens (ix2 n 0)) 3#32 = BitVec.ofNat 32 (len n) := by
    intro n
    have := h4 n
    have := h256 n
    rw [hlen n]
    apply BitVec.eq_of_toNat_eq
    simp [IntOp.addi]
    omega
  pointwise [k0_pay1]
  unfold CrfCtc.meanLoss
  rw [CrfCtc.bits_32]
  congr 1
  refine Finset.sum_congr rfl fun n _ => ?_
  rw [Fintype.sum_unique]
  rw [logZ_two x a ha n, picked_two x δ b hb lens len hlen h4 h256 n, e n, CrfCtc.sitofp_ofNat _ (by have := h256 n; omega)]
  rfl

end Cert.KernelIdeal.Gen.Step

end
-- ==== Proof.Spec.Data.lean ====
/- The arguments as numbers: scores as reals, targets as digits from zero, lengths; and what the precondition says of
   them. -/
module

public import proofs.«01_k».proof.Proof.Spec.Rows

@[expose] public section

noncomputable section

namespace Cert.CrfCtc

open Idealize.ShloMosaic

/-- The score in column `i` at step `t` of sequence `n`, a real. -/
def scoreOf (f : Fin 512 → Fin 32 → Fin 1280 → EReal) (n : Fin 32) (t i : ℕ) : ℝ :=
  (f ⟨t % 512, Nat.mod_lt _ (by decide)⟩ n ⟨i % 1280, Nat.mod_lt _ (by decide)⟩).toReal

/-- The digit at place `l` of the target of sequence `n`: the base less one, and zero where there is none. -/
def digitOf (g : Fin 32 → Fin 256 → BitVec 32) (n : Fin 32) (l : ℕ) : ℕ :=
  if h : l < 256 then (g n ⟨l, h⟩).toNat - 1 else 0

/-- The length of the target of sequence `n`. -/
def lengthOf (h : Fin 32 → BitVec 32) (n : Fin 32) : ℕ := (h n).toNat

/-- Finite scores, bases from 0 to 4, lengths from 64 to 256. -/
structure Drawn (f : Fin 512 → Fin 32 → Fin 1280 → EReal) (g : Fin 32 → Fin 256 → BitVec 32) (h : Fin 32 → BitVec 32) : Prop where
  finite : ∀ t n i, max (f t n i) (-f t n i) < ⊤
  bases : ∀ n l, (g n l).toNat < 5
  lengths : ∀ n, 64 ≤ (h n).toNat ∧ (h n).toNat ≤ 256

variable {f : Fin 512 → Fin 32 → Fin 1280 → EReal} {g : Fin 32 → Fin 256 → BitVec 32} {h : Fin 32 → BitVec 32}

/-- A finite score is its real. -/
theorem Drawn.score (D : Drawn f g h) (t : Fin 512) (n : Fin 32) (i : Fin 1280) : f t n i = ((scoreOf f n t i : ℝ) : EReal) := by
  have e : scoreOf f n t i = (f t n i).toReal := by
    unfold scoreOf
    congr 2
    · exact Fin.ext (Nat.mod_eq_of_lt t.isLt)
    · exact Fin.ext (Nat.mod_eq_of_lt i.isLt)
  rw [e]
  have := D.finite t n i
  refine (EReal.coe_toReal ?_ ?_).symm
  · intro k; rw [k] at this; simp at this
  · intro k; rw [k] at this; simp at this

/-- Digits are below four. -/
theorem Drawn.digit (D : Drawn f g h) (n : Fin 32) (l : ℕ) : digitOf g n l < 4 := by
  unfold digitOf
  split
  · rename_i hl
    have := D.bases n ⟨l, hl⟩
    omega
  · decide

/-- The greater of zero and a base less one is the digit, as words. -/
theorem Drawn.word (D : Drawn f g h) (n : Fin 32) (l : Fin 256) :
    IntOp.maxsi 0#32 (IntOp.subi (g n l) 1#32) = BitVec.ofNat 32 (digitOf g n l) := by
  have e : digitOf g n l = (g n l).toNat - 1 := dif_pos l.isLt
  have h5 := D.bases n l
  have w : g n l = BitVec.ofNat 32 (⟨(g n l).toNat, h5⟩ : Fin 5).val := by simp
  rw [e]
  generalize (⟨(g n l).toNat, h5⟩ : Fin 5) = b at w
  rw [w]
  revert b
  have : ∀ b : Fin 5, IntOp.maxsi 0#32 (IntOp.subi (BitVec.ofNat 32 b.val) 1#32) = BitVec.ofNat 32 ((BitVec.ofNat 32 b.val).toNat - 1) := by decide
  exact fun b _ => this b

/-- Four digits, put together as words, make the state. -/
theorem state_word {δ : ℕ → ℕ} (hδ : ∀ l, δ l < 4) (l : ℕ) :
    IntOp.addi (IntOp.addi (IntOp.addi (IntOp.addi 0#32 (IntOp.muli (BitVec.ofNat 32 (δ l)) 64#32)) (IntOp.muli (BitVec.ofNat 32 (δ (l + 1))) 16#32))
      (IntOp.muli (BitVec.ofNat 32 (δ (l + 2))) 4#32)) (IntOp.muli (BitVec.ofNat 32 (δ (l + 3))) 1#32) = BitVec.ofNat 32 (state δ l) := by
  have := hδ l
  have := hδ (l + 1)
  have := hδ (l + 2)
  have := hδ (l + 3)
  apply BitVec.eq_of_toNat_eq
  simp [IntOp.addi, IntOp.muli, state]
  omega

end Cert.CrfCtc
end
-- ==== Proof.Crf.Host.lean ====
/- What the kernel's host operations make of the arguments: the planes of scores, the states and the bases along the
   targets, and the lengths; read at one place, where the arguments are as drawn. Then the whole program's result. -/
module

public import proofs.«01_k».proof.Proof.Crf.Loss
public import proofs.«01_k».proof.Proof.Spec.Data
public import proofs.«01_k».proof.Proof.Gen.KernelIdeal.Run
@[expose] public section
set_option maxRecDepth 16384
noncomputable section
namespace Cert.KernelIdeal.Gen.Step
open Idealize.ShloMosaic Idealize.ShloMosaic.TcCoe Idealize.ShloMosaic.StableHlo Idealize.ShloMosaic.WordCmp Idealize.SL.Sem
open Cert.KernelIdeal Cert.KernelIdeal.Gen

variable {F : FTy → Type} [FloatOps F] [Named F]
/-- The targets counted from zero, none below it. -/
def digits (tg : IVec S32x256 32) : IVec S32x256 32 :=
  maxsi (broadcastInDim S32x256 ![] bcast_S_S32x256 (constantI S_ 32 0#32))
    (subi tg (broadcastInDim S32x256 ![] bcast_S_S32x256 (constantI S_ 32 1#32)))
/-- A number at every place. -/
def num253 (n : BitVec 32) : IVec S32x253 32 := broadcastInDim S32x253 ![] bcast_S_S32x253 (constantI S_ 32 n)

/-- The states' array. -/
def statesOf (d : IVec S32x256 32) : IVec S32x256 32 :=
  concatenate S32x256 1 [⟨S32x253, addi (addi (addi (addi (num253 0#32)
      (muli (extractStridedSlice S32x253 ![0, 0] d slices_S32x256_S32x253_0_0) (num253 64#32)))
      (muli (extractStridedSlice S32x253 ![0, 1] d slices_S32x256_S32x253_0_1) (num253 16#32)))
      (muli (extractStridedSlice S32x253 ![0, 2] d slices_S32x256_S32x253_0_2) (num253 4#32)))
      (muli (extractStridedSlice S32x253 ![0, 3] d slices_S32x256_S32x253_0_3) (num253 1#32))⟩,
    ⟨S32x3, broadcastInDim S32x3 ![] bcast_S_S32x3 (constantI S_ 32 0#32)⟩] concatenates_S32x253_S32x3_S32x256_d1

/-- The bases' array. -/
def basesOf (d : IVec S32x256 32) : IVec S32x256 32 :=
  concatenate S32x256 1 [⟨S32x1, broadcastInDim S32x1 ![] bcast_S_S32x1 (constantI S_ 32 0#32)⟩,
    ⟨S32x252, addi (extractStridedSlice S32x252 ![0, 0] d slices_S32x256_S32x252_0_0) (broadcastInDim S32x252 ![] bcast_S_S32x252 (constantI S_ 32 1#32))⟩,
    ⟨S32x3, broadcastInDim S32x3 ![] bcast_S_S32x3 (constantI S_ 32 0#32)⟩] concatenates_S32x1_S32x252_S32x3_S32x256_d1

/-- The column of numbers of places. -/
def placesOf (len : IVec S32 32) : IVec S32x1 32 :=
  shapeCast S32x1 (subi (addi len (broadcastInDim S32 ![] bcast_S_S32 (constantI S_ 32 1#32))) (broadcastInDim S32 ![] bcast_S_S32 (constantI S_ 32 4#32)))
    shapeCasts_S32_S32x1

/-- The planes' array: the edge comes first. -/
def planesArr (a : FVec F S512x32x1280 .f32) : FVec F S512x5x32x256 .bf16 :=
  transpose S512x5x32x256 [0, 3, 1, 2] (shapeCast S512x32x256x5 (truncf .bf16 a bitsLt_bf16_f32) shapeCasts_S512x32x1280_S512x32x256x5)
    transposes_S512x32x256x5_S512x5x32x256_0_3_1_2

section arrays

variable (m : (ℓ : Loc nD τ sig) → Buf (Elt F) ℓ)

/-- The call is given the states. -/
theorem V_states (c : Dev nD) : (V m c (Pipeline.arrRef spec0 1) : IVec S32x256 32) = statesOf (digits (m ((c.tc : Thread nD τ).loc main_arg1))) := by
  show StableHlo.after (List.flatten [hostOps0, hostOps0_1, hostOps0_2]) _ (Proc.devRef .tc main_v21) = _
  simp only [Gen.hostOps0, hostOps0_1, hostOps0_2, List.flatten_cons, List.flatten_nil, List.append_nil, List.cons_append, List.nil_append]
  after_results
  rfl

/-- The call is given the bases. -/
theorem V_bases (c : Dev nD) : (V m c (Pipeline.arrRef spec0 2) : IVec S32x256 32) = basesOf (digits (m ((c.tc : Thread nD τ).loc main_arg1))) := by
  show StableHlo.after (List.flatten [hostOps0, hostOps0_1, hostOps0_2]) _ (Proc.devRef .tc main_v27) = _
  simp only [Gen.hostOps0, hostOps0_1, hostOps0_2, List.flatten_cons, List.flatten_nil, List.append_nil, List.cons_append, List.nil_append]
  after_results
  rfl

/-- The call is given the numbers of places. -/
theorem V_places (c : Dev nD) : (V m c (Pipeline.arrRef spec0 0) : IVec S32x1 32) = placesOf (m ((c.tc : Thread nD τ).loc main_arg2)) := by
  show StableHlo.after (List.flatten [hostOps0, hostOps0_1, hostOps0_2]) _ (Proc.devRef .tc main_v32) = _
  simp only [Gen.hostOps0, hostOps0_1, hostOps0_2, List.flatten_cons, List.flatten_nil, List.append_nil, List.cons_append, List.nil_append]
  after_results
  rfl

/-- The call is given the planes. -/
theorem V_planes (c : Dev nD) : (V m c (Pipeline.arrRef spec0 5) : FVec F S512x5x32x256 .bf16) = planesArr (m ((c.tc : Thread nD τ).loc main_arg0)) := by
  show StableHlo.after (List.flatten [hostOps0, hostOps0_1, hostOps0_2]) _ (Proc.devRef .tc main_v35) = _
  simp only [Gen.hostOps0, hostOps0_1, hostOps0_2, List.flatten_cons, List.flatten_nil, List.append_nil, List.cons_append, List.nil_append]
  after_results
  rfl

end arrays

/-! ## At one place -/

/-- A plane at a state is the score in the edge's column. -/
theorem planesArr_at (a : FVec Ideal S512x32x1280 .f32) (t : Fin 512) (d : Fin 5) (n : Fin 32) (s : Fin 256) :
    planesArr a (planeAt t d n s) = a (ix3 t n ⟨5 * s.val + d.val, by omega⟩) := by
  have e : planeAt t d n s = ix4 t d n s := funext fun a => by fin_cases a <;> rfl
  rw [e]
  pointwise [planesArr]
  congr 2
  exact Fin.ext (by show s.val * 5 + d.val = 5 * s.val + d.val; omega)

/-- The states' array at a place. -/
theorem statesOf_at (g : Fin 32 → Fin 256 → BitVec 32) (hδ : ∀ n l, CrfCtc.digitOf g n l < 4) (d : IVec S32x256 32)
    (hd : ∀ (n : Fin 32) (l : Fin 256), d (ix2 n l) = BitVec.ofNat 32 (CrfCtc.digitOf g n l)) (n : Fin 32) (l : Fin 256) (hl : l.val < 253) :
    statesOf d (ix2 n l) = BitVec.ofNat 32 (CrfCtc.state (CrfCtc.digitOf g n) l) := by
  pointwise [statesOf, num253]
  rw [dif_pos hl, hd, hd, hd, hd, ← CrfCtc.state_word (hδ n) l]
  simp only [Nat.add_comm]

/-- The bases' array at a place. -/
theorem basesOf_at (g : Fin 32 → Fin 256 → BitVec 32) (hδ : ∀ n l, CrfCtc.digitOf g n l < 4) (d : IVec S32x256 32)
    (hd : ∀ (n : Fin 32) (l : Fin 256), d (ix2 n l) = BitVec.ofNat 32 (CrfCtc.digitOf g n l)) (n : Fin 32) (l : Fin 256) (h0 : l.val ≠ 0) (hl : l.val < 253) :
    basesOf d (ix2 n l) = BitVec.ofNat 32 (CrfCtc.digitOf g n (l.val - 1) + 1) := by
  pointwise [basesOf]
  rw [dif_neg (by omega), dif_pos (by omega), hd]
  have := hδ n (l.val - 1)
  apply BitVec.eq_of_toNat_eq
  simp [IntOp.addi]

/-- The number of places of a sequence. -/
theorem placesOf_at (len : IVec S32 32) (n : Fin 32) (h4 : 64 ≤ (len (ix1 n)).toNat) (h256 : (len (ix1 n)).toNat ≤ 256) :
    placesOf len (ix2 n 0) = BitVec.ofNat 32 ((len (ix1 n)).toNat - 3) := by
  pointwise [placesOf]
  apply BitVec.eq_of_toNat_eq
  simp [IntOp.addi, IntOp.subi]
  omega

/-- The digits at a place. -/
theorem digits_at {f : Fin 512 → Fin 32 → Fin 1280 → EReal} {g : Fin 32 → Fin 256 → BitVec 32} {h : Fin 32 → BitVec 32}
    (D : CrfCtc.Drawn f g h) (tg : IVec S32x256 32) (ht : ∀ n l, tg (ix2 n l) = g n l) (n : Fin 32) (l : Fin 256) :
    digits tg (ix2 n l) = BitVec.ofNat 32 (CrfCtc.digitOf g n l) := by
  pointwise [digits]
  rw [ht]
  exact D.word n l

/-! ## The result -/

variable (m : (ℓ : Loc nD τ sig) → Buf (Elt Ideal) ℓ)

/-- The scores, by step, sequence and column. -/
abbrev argF (c : Dev nD) : Fin 512 → Fin 32 → Fin 1280 → EReal :=
  fun t n i => (m ((c.tc : Thread nD τ).loc main_arg0) : FVec Ideal S512x32x1280 .f32) (ix3 t n i)
/-- The targets, by sequence and place. -/
abbrev argG (c : Dev nD) : Fin 32 → Fin 256 → BitVec 32 := fun n l => (m ((c.tc : Thread nD τ).loc main_arg1) : IVec S32x256 32) (ix2 n l)
/-- The lengths. -/
abbrev argH (c : Dev nD) : Fin 32 → BitVec 32 := fun n => (m ((c.tc : Thread nD τ).loc main_arg2) : IVec S32 32) (ix1 n)

/-- The call is given what the recursions want. -/
theorem holds (c : Dev nD) (D : CrfCtc.Drawn (argF m c) (argG m c) (argH m c)) :
    Holds m c (CrfCtc.scoreOf (argF m c)) (CrfCtc.digitOf (argG m c)) where
  planes t d n s := by
    rw [V_planes, planesArr_at]
    exact D.score t n _
  states n l hl := by
    rw [V_states]
    exact statesOf_at (argG m c) D.digit _ (digits_at D _ fun _ _ => rfl) n l hl
  bases n l h0 hl := by
    rw [V_bases]
    exact basesOf_at (argG m c) D.digit _ (digits_at D _ fun _ _ => rfl) n l h0 hl
  digit := D.digit

/-- The block of losses holds the mean loss. -/
theorem lossBlock_at (c : Dev nD) (D : CrfCtc.Drawn (argF m c) (argG m c) (argH m c)) (i : Fin 8) (j : Fin 128) :
    lossBlock m c (ix2 i j) = CrfCtc.meanLoss (CrfCtc.scoreOf (argF m c)) (CrfCtc.digitOf (argG m c)) (CrfCtc.lengthOf (argH m c)) := by
  have H := holds m c D
  refine loss_at _ _ _ _ (crf_rows H 15 h15) (ctc_rows H 15 h15) _ _ ?_ ?_ ?_ i j
  · intro n
    rw [iblk0, V_places]
    exact placesOf_at _ n (D.lengths n).1 (D.lengths n).2
  · intro n
    exact le_trans (by decide) (D.lengths n).1
  · exact fun n => (D.lengths n).2

/-- Every run of the kernel ends with the mean loss as its result, and its arguments as they were. -/
theorem run_mean (ρ : Dev nD → PrngReg) (D : ∀ c, CrfCtc.Drawn (argF m c) (argG m c) (argH m c)) :
    θ_run defs (onTc (τ := τ) (main (F := Ideal))) ⟨m, fun _ => 0, ρ⟩ fun r => ∀ c : Dev nD,
      r.2.mem ((c.tc : Thread nD τ).loc main_v40)
          = (fun _ => CrfCtc.meanLoss (CrfCtc.scoreOf (argF m c)) (CrfCtc.digitOf (argG m c)) (CrfCtc.lengthOf (argH m c)) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨((h c).1).trans ?_, (h c).2⟩) (Cert.KernelIdeal.Value.run m ρ)
  rw [show Cert.KernelIdeal.Value.reg_main_v38_2 m c = lossBlock m c from final_loss m c]
  funext i
  pointwise
  exact lossBlock_at m c (D c) _ _

end Cert.KernelIdeal.Gen.Step

end
-- ==== Proof.Ref.Ops.lean ====
/- The reference's host operations, in order, as lists: what each list touches and writes, and the program and its two
   loops' bodies as chains of the lists. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

set_option maxRecDepth 4096

noncomputable section

namespace Cert.ReferenceIdeal.Gen.Ref

open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]

/-- The scores cut into frames, the zero row and the first loop's counter. -/
abbrev startOps : List (HloOp τ sig (Elt F)) :=
  [ nullary main_c (fun i => lit0 (S256x5.rowMajor i)),
    reshape main_arg0 main_v0 (rfl : (.f32 : EltTy) = .f32) shapeCasts_S512x32x1280_S512x32x256x5,
    nullary main_cst (constant S_ .f32 0x00000000#32),
    unary main_cst main_v1 (broadcastInDim S32x256 ![] bcast_S_S32x256 : (⟨S_, .f32⟩ : BufTy).Contents (Elt F) → (⟨S32x256, .f32⟩ : BufTy).Contents (Elt F)),
    nullary main_c_0 (constantI S_ 32 0#32),
    unary main_v0 main_v2_0 id,
    unary main_c main_v2_1 id,
    unary main_c_0 main_v2_2 id,
    unary main_v1 main_v2_3 id ]

/-- They touch the TensorCore's buffers only. -/
theorem startOps_sub : (startOps : List (HloOp τ sig (Elt F))).Forall fun op => op.bufs ⊆ tcRefs τ sig :=
  ⟨nullary_bufs_sub .., reshape_bufs_sub .., nullary_bufs_sub .., unary_bufs_sub .., nullary_bufs_sub .., unary_bufs_sub .., unary_bufs_sub .., unary_bufs_sub .., unary_bufs_sub ..⟩

/-- None allocates. -/
theorem startOps_fresh : (startOps : List (HloOp τ sig (Elt F))).Forall fun op => op.fresh = ∅ := forall_fresh_of_map rfl

/-- The buffers they write. -/
abbrev startOps_W : List (Ref sig .tc) := [main_c, main_v0, main_cst, main_v1, main_c_0, main_v2_0, main_v2_1, main_v2_2, main_v2_3]

/-- They write these only. -/
theorem startOps_writes : (startOps : List (HloOp τ sig (Elt F))).Forall fun op => op.writes ⊆ (startOps_W.map (Proc.devRef (τ := τ) .tc)).toFinset :=
  forall_writes_sub_of_map rfl

/-- The partition function of the last row, the scores less their share of it, and the targets counted from zero. -/
abbrev normOps : List (HloOp τ sig (Elt F)) :=
  [ nullary main_cst_1 (constant S_ .f32 0xFF800000#32),
    binary main_v2_3 main_cst_1 main_v3 ((fun x v => Host.reduce FloatOps.maximumf x v reducesTo_S32x256_S32_d1 h_S_) : (⟨S32x256, .f32⟩ : BufTy).Contents (Elt F) → (⟨S_, .f32⟩ : BufTy).Contents (Elt F) → (⟨S32, .f32⟩ : BufTy).Contents (Elt F)),
    unary main_v3 main_v4 (Host.absf : (⟨S32, .f32⟩ : BufTy).Contents (Elt F) → (⟨S32, .f32⟩ : BufTy).Contents (Elt F)),
    nullary main_cst_2 (constant S_ .f32 0x7F800000#32),
    unary main_cst_2 main_v5 (broadcastInDim S32 ![] bcast_S_S32 : (⟨S_, .f32⟩ : BufTy).Contents (Elt F) → (⟨S32, .f32⟩ : BufTy).Contents (Elt F)),
    binary main_v4 main_v5 main_v6 (cmpf .olt : (⟨S32, .f32⟩ : BufTy).Contents (Elt F) → (⟨S32, .f32⟩ : BufTy).Contents (Elt F) → (⟨S32, .i1⟩ : BufTy).Contents (Elt F)),
    nullary main_cst_3 (constant S_ .f32 0x00000000#32),
    unary main_cst_3 main_v7 (broadcastInDim S32 ![] bcast_S_S32 : (⟨S_, .f32⟩ : BufTy).Contents (Elt F) → (⟨S32, .f32⟩ : BufTy).Contents (Elt F)),
    ternary main_v6 main_v3 main_v7 main_v8 (select : (⟨S32, .i1⟩ : BufTy).Contents (Elt F) → (⟨S32, .f32⟩ : BufTy).Contents (Elt F) → (⟨S32, .f32⟩ : BufTy).Contents (Elt F) → (⟨S32, .f32⟩ : BufTy).Contents (Elt F)),
    unary main_v8 main_v9 (broadcastInDim S32x1 ![0] bcast_S32_S32x1_0 : (⟨S32, .f32⟩ : BufTy).Contents (Elt F) → (⟨S32x1, .f32⟩ : BufTy).Contents (Elt F)),
    unary main_v9 main_v10 (broadcastInDim S32x256 ![0, 1] bcast_S32x1_S32x256_0_1 : (⟨S32x1, .f32⟩ : BufTy).Contents (Elt F) → (⟨S32x256, .f32⟩ : BufTy).Contents (Elt F)),
    binary main_v2_3 main_v10 main_v11 (subf : (⟨S32x256, .f32⟩ : BufTy).Contents (Elt F) → (⟨S32x256, .f32⟩ : BufTy).Contents (Elt F) → (⟨S32x256, .f32⟩ : BufTy).Contents (Elt F)),
    unary main_v11 main_v12 (Host.exp : (⟨S32x256, .f32⟩ : BufTy).Contents (Elt F) → (⟨S32x256, .f32⟩ : BufTy).Contents (Elt F)),
    nullary main_cst_4 (constant S_ .f32 0x00000000#32),
    binary main_v12 main_cst_4 main_v13 ((fun x v => Host.reduceAdd x v reducesTo_S32x256_S32_d1 h_S_) : (⟨S32x256, .f32⟩ : BufTy).Contents (Elt F) → (⟨S_, .f32⟩ : BufTy).Contents (Elt F) → (⟨S32, .f32⟩ : BufTy).Contents (Elt F)),
    unary main_v13 main_v14 (Host.log : (⟨S32, .f32⟩ : BufTy).Contents (Elt F) → (⟨S32, .f32⟩ : BufTy).Contents (Elt F)),
    binary main_v14 main_v8 main_v15 (addf : (⟨S32, .f32⟩ : BufTy).Contents (Elt F) → (⟨S32, .f32⟩ : BufTy).Contents (Elt F) → (⟨S32, .f32⟩ : BufTy).Contents (Elt F)),
    unary main_v15 main_v16 (broadcastInDim S32x1 ![0] bcast_S32_S32x1_0 : (⟨S32, .f32⟩ : BufTy).Contents (Elt F) → (⟨S32x1, .f32⟩ : BufTy).Contents (Elt F)),
    nullary main_cst_5 (constant S_ .f32 0x44000000#32),
    unary main_cst_5 main_v17 (broadcastInDim S32x1 ![] bcast_S_S32x1 : (⟨S_, .f32⟩ : BufTy).Contents (Elt F) → (⟨S32x1, .f32⟩ : BufTy).Contents (Elt F)),
    binary main_v16 main_v17 main_v18 (Host.divf : (⟨S32x1, .f32⟩ : BufTy).Contents (Elt F) → (⟨S32x1, .f32⟩ : BufTy).Contents (Elt F) → (⟨S32x1, .f32⟩ : BufTy).Contents (Elt F)),
    unary main_v18 main_v19 (broadcastInDim S1x32x1 ![1, 2] bcast_S32x1_S1x32x1_1_2 : (⟨S32x1, .f32⟩ : BufTy).Contents (Elt F) → (⟨S1x32x1, .f32⟩ : BufTy).Contents (Elt F)),
    unary main_v19 main_v20 (broadcastInDim S512x32x1280 ![0, 1, 2] bcast_S1x32x1_S512x32x1280_0_1_2 : (⟨S1x32x1, .f32⟩ : BufTy).Contents (Elt F) → (⟨S512x32x1280, .f32⟩ : BufTy).Contents (Elt F)),
    binary main_arg0 main_v20 main_v21 (subf : (⟨S512x32x1280, .f32⟩ : BufTy).Contents (Elt F) → (⟨S512x32x1280, .f32⟩ : BufTy).Contents (Elt F) → (⟨S512x32x1280, .f32⟩ : BufTy).Contents (Elt F)),
    nullary main_c_6 (constantI S_ 32 1#32),
    unary main_c_6 main_v22 (broadcastInDim S32x256 ![] bcast_S_S32x256 : (⟨S_, .i32⟩ : BufTy).Contents (Elt F) → (⟨S32x256, .i32⟩ : BufTy).Contents (Elt F)),
    binary main_arg1 main_v22 main_v23 (subi : (⟨S32x256, .i32⟩ : BufTy).Contents (Elt F) → (⟨S32x256, .i32⟩ : BufTy).Contents (Elt F) → (⟨S32x256, .i32⟩ : BufTy).Contents (Elt F)),
    nullary main_c_7 (constantI S_ 32 0#32) ]

/-- They touch the TensorCore's buffers only. -/
theorem normOps_sub : (normOps : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., unary_bufs_sub .., ternary_bufs_sub .., unary_bufs_sub .., unary_bufs_sub .., binary_bufs_sub .., unary_bufs_sub .., nullary_bufs_sub .., binary_bufs_sub .., unary_bufs_sub .., binary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub ..⟩

/-- None allocates. -/
theorem normOps_fresh : (normOps : List (HloOp τ sig (Elt F))).Forall fun op => op.fresh = ∅ := forall_fresh_of_map rfl

/-- The buffers they write. -/
abbrev normOps_W : List (Ref sig .tc) := [main_cst_1, main_v3, main_v4, main_cst_2, main_v5, main_v6, main_cst_3, main_v7, main_v8, main_v9, main_v10, main_v11, main_v12, main_cst_4, main_v13, main_v14, main_v15, main_v16, main_cst_5, main_v17, main_v18, main_v19, main_v20, main_v21, main_c_6, main_v22, main_v23, main_c_7]

/-- They write these only. -/
theorem normOps_writes : (normOps : List (HloOp τ sig (Elt F))).Forall fun op => op.writes ⊆ (normOps_W.map (Proc.devRef (τ := τ) .tc)).toFinset :=
  forall_writes_sub_of_map rfl

/-- The targets, none below zero. -/
abbrev clipOps : List (HloOp τ sig (Elt F)) :=
  [ TRef.unary (.of main_c_7 : TRef sig ⟨S_, .i32⟩) (.of main_call1_v0 : TRef sig ⟨S_, .i32⟩) id,
    TRef.unary (.of main_call1_v0 : TRef sig ⟨S_, .i32⟩) (.of main_call1_v1 : TRef sig ⟨S32x256, .i32⟩) (broadcastInDim S32x256 ![] bcast_S_S32x256),
    TRef.binary (.of main_call1_v1 : TRef sig ⟨S32x256, .i32⟩) (.of main_v23 : TRef sig ⟨S32x256, .i32⟩) (.of main_v24 : TRef sig ⟨S32x256, .i32⟩) maxsi ]

/-- They touch the TensorCore's buffers only. -/
theorem clipOps_sub : (clipOps : List (HloOp τ sig (Elt F))).Forall fun op => op.bufs ⊆ tcRefs τ sig :=
  ⟨unary_bufs_sub .., unary_bufs_sub .., binary_bufs_sub ..⟩

/-- None allocates. -/
theorem clipOps_fresh : (clipOps : List (HloOp τ sig (Elt F))).Forall fun op => op.fresh = ∅ := forall_fresh_of_map rfl

/-- The buffers they write. -/
abbrev clipOps_W : List (Ref sig .tc) := [main_call1_v0, main_call1_v1, main_v24]

/-- They write these only. -/
theorem clipOps_writes : (clipOps : List (HloOp τ sig (Elt F))).Forall fun op => op.writes ⊆ (clipOps_W.map (Proc.devRef (τ := τ) .tc)).toFinset :=
  forall_writes_sub_of_map rfl

/-- The first three digits of each place's state. -/
abbrev digitOps : List (HloOp τ sig (Elt F)) :=
  [ unary main_v24 main_v25 ((extractStridedSlice S32x253 ![0, 0] · slices_S32x256_S32x253_0_0) : (⟨S32x256, .i32⟩ : BufTy).Contents (Elt F) → (⟨S32x253, .i32⟩ : BufTy).Contents (Elt F)),
    nullary main_c_8 (constantI S_ 32 64#32),
    unary main_c_8 main_v26 (broadcastInDim S32x253 ![] bcast_S_S32x253 : (⟨S_, .i32⟩ : BufTy).Contents (Elt F) → (⟨S32x253, .i32⟩ : BufTy).Contents (Elt F)),
    binary main_v25 main_v26 main_v27 (muli : (⟨S32x253, .i32⟩ : BufTy).Contents (Elt F) → (⟨S32x253, .i32⟩ : BufTy).Contents (Elt F) → (⟨S32x253, .i32⟩ : BufTy).Contents (Elt F)),
    nullary main_c_9 (constantI S_ 32 0#32),
    unary main_c_9 main_v28 (broadcastInDim S32x253 ![] bcast_S_S32x253 : (⟨S_, .i32⟩ : BufTy).Contents (Elt F) → (⟨S32x253, .i32⟩ : BufTy).Contents (Elt F)),
    binary main_v28 main_v27 main_v29 (addi : (⟨S32x253, .i32⟩ : BufTy).Contents (Elt F) → (⟨S32x253, .i32⟩ : BufTy).Contents (Elt F) → (⟨S32x253, .i32⟩ : BufTy).Contents (Elt F)),
    unary main_v24 main_v30 ((extractStridedSlice S32x253 ![0, 1] · slices_S32x256_S32x253_0_1) : (⟨S32x256, .i32⟩ : BufTy).Contents (Elt F) → (⟨S32x253, .i32⟩ : BufTy).Contents (Elt F)),
    nullary main_c_10 (constantI S_ 32 16#32),
    unary main_c_10 main_v31 (broadcastInDim S32x253 ![] bcast_S_S32x253 : (⟨S_, .i32⟩ : BufTy).Contents (Elt F) → (⟨S32x253, .i32⟩ : BufTy).Contents (Elt F)),
    binary main_v30 main_v31 main_v32 (muli : (⟨S32x253, .i32⟩ : BufTy).Contents (Elt F) → (⟨S32x253, .i32⟩ : BufTy).Contents (Elt F) → (⟨S32x253, .i32⟩ : BufTy).Contents (Elt F)),
    binary main_v29 main_v32 main_v33 (addi : (⟨S32x253, .i32⟩ : BufTy).Contents (Elt F) → (⟨S32x253, .i32⟩ : BufTy).Contents (Elt F) → (⟨S32x253, .i32⟩ : BufTy).Contents (Elt F)),
    unary main_v24 main_v34 ((extractStridedSlice S32x253 ![0, 2] · slices_S32x256_S32x253_0_2) : (⟨S32x256, .i32⟩ : BufTy).Contents (Elt F) → (⟨S32x253, .i32⟩ : BufTy).Contents (Elt F)),
    nullary main_c_11 (constantI S_ 32 4#32),
    unary main_c_11 main_v35 (broadcastInDim S32x253 ![] bcast_S_S32x253 : (⟨S_, .i32⟩ : BufTy).Contents (Elt F) → (⟨S32x253, .i32⟩ : BufTy).Contents (Elt F)),
    binary main_v34 main_v35 main_v36 (muli : (⟨S32x253, .i32⟩ : BufTy).Contents (Elt F) → (⟨S32x253, .i32⟩ : BufTy).Contents (Elt F) → (⟨S32x253, .i32⟩ : BufTy).Contents (Elt F)),
    binary main_v33 main_v36 main_v37 (addi : (⟨S32x253, .i32⟩ : BufTy).Contents (Elt F) → (⟨S32x253, .i32⟩ : BufTy).Contents (Elt F) → (⟨S32x253, .i32⟩ : BufTy).Contents (Elt F)),
    unary main_v24 main_v38 ((extractStridedSlice S32x253 ![0, 3] · slices_S32x256_S32x253_0_3) : (⟨S32x256, .i32⟩ : BufTy).Contents (Elt F) → (⟨S32x253, .i32⟩ : BufTy).Contents (Elt F)),
    nullary main_c_12 (constantI S_ 32 1#32),
    unary main_c_12 main_v39 (broadcastInDim S32x253 ![] bcast_S_S32x253 : (⟨S_, .i32⟩ : BufTy).Contents (Elt F) → (⟨S32x253, .i32⟩ : BufTy).Contents (Elt F)),
    binary main_v38 main_v39 main_v40 (muli : (⟨S32x253, .i32⟩ : BufTy).Contents (Elt F) → (⟨S32x253, .i32⟩ : BufTy).Contents (Elt F) → (⟨S32x253, .i32⟩ : BufTy).Contents (Elt F)) ]

/-- They touch the TensorCore's buffers only. -/
theorem digitOps_sub : (digitOps : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., unary_bufs_sub .., nullary_bufs_sub .., unary_bufs_sub .., binary_bufs_sub ..⟩

/-- None allocates. -/
theorem digitOps_fresh : (digitOps : List (HloOp τ sig (Elt F))).Forall fun op => op.fresh = ∅ := forall_fresh_of_map rfl

/-- The buffers they write. -/
abbrev digitOps_W : List (Ref sig .tc) := [main_v25, main_c_8, main_v26, main_v27, main_c_9, main_v28, main_v29, main_v30, main_c_10, main_v31, main_v32, main_v33, main_v34, main_c_11, main_v35, main_v36, main_v37, main_v38, main_c_12, main_v39, main_v40]

/-- They write these only. -/
theorem digitOps_writes : (digitOps : List (HloOp τ sig (Elt F))).Forall fun op => op.writes ⊆ (digitOps_W.map (Proc.devRef (τ := τ) .tc)).toFinset :=
  forall_writes_sub_of_map rfl

/-- The columns of staying and of moving, at each place of the target. -/
abbrev indexOps : List (HloOp τ sig (Elt F)) :=
  [ binary main_v37 main_v40 main_v41 (addi : (⟨S32x253, .i32⟩ : BufTy).Contents (Elt F) → (⟨S32x253, .i32⟩ : BufTy).Contents (Elt F) → (⟨S32x253, .i32⟩ : BufTy).Contents (Elt F)),
    nullary main_c_13 (constantI S_ 32 5#32),
    unary main_c_13 main_v42 (broadcastInDim S32x253 ![] bcast_S_S32x253 : (⟨S_, .i32⟩ : BufTy).Contents (Elt F) → (⟨S32x253, .i32⟩ : BufTy).Contents (Elt F)),
    binary main_v41 main_v42 main_v43 (muli : (⟨S32x253, .i32⟩ : BufTy).Contents (Elt F) → (⟨S32x253, .i32⟩ : BufTy).Contents (Elt F) → (⟨S32x253, .i32⟩ : BufTy).Contents (Elt F)),
    unary main_v43 main_v44 ((extractStridedSlice S32x252 ![0, 1] · slices_S32x253_S32x252_0_1) : (⟨S32x253, .i32⟩ : BufTy).Contents (Elt F) → (⟨S32x252, .i32⟩ : BufTy).Contents (Elt F)),
    unary main_v24 main_v45 ((extractStridedSlice S32x252 ![0, 0] · slices_S32x256_S32x252_0_0) : (⟨S32x256, .i32⟩ : BufTy).Contents (Elt F) → (⟨S32x252, .i32⟩ : BufTy).Contents (Elt F)),
    binary main_v44 main_v45 main_v46 (addi : (⟨S32x252, .i32⟩ : BufTy).Contents (Elt F) → (⟨S32x252, .i32⟩ : BufTy).Contents (Elt F) → (⟨S32x252, .i32⟩ : BufTy).Contents (Elt F)),
    nullary main_c_14 (constantI S_ 32 1#32),
    unary main_c_14 main_v47 (broadcastInDim S32x252 ![] bcast_S_S32x252 : (⟨S_, .i32⟩ : BufTy).Contents (Elt F) → (⟨S32x252, .i32⟩ : BufTy).Contents (Elt F)),
    binary main_v46 main_v47 main_v48 (addi : (⟨S32x252, .i32⟩ : BufTy).Contents (Elt F) → (⟨S32x252, .i32⟩ : BufTy).Contents (Elt F) → (⟨S32x252, .i32⟩ : BufTy).Contents (Elt F)),
    unary main_v43 main_v49 (broadcastInDim S1x32x253 ![1, 2] bcast_S32x253_S1x32x253_1_2 : (⟨S32x253, .i32⟩ : BufTy).Contents (Elt F) → (⟨S1x32x253, .i32⟩ : BufTy).Contents (Elt F)),
    unary main_v49 main_v50 (broadcastInDim S512x32x253 ![0, 1, 2] bcast_S1x32x253_S512x32x253_0_1_2 : (⟨S1x32x253, .i32⟩ : BufTy).Contents (Elt F) → (⟨S512x32x253, .i32⟩ : BufTy).Contents (Elt F)) ]

/-- They touch the TensorCore's buffers only. -/
theorem indexOps_sub : (indexOps : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub ..⟩

/-- None allocates. -/
theorem indexOps_fresh : (indexOps : List (HloOp τ sig (Elt F))).Forall fun op => op.fresh = ∅ := forall_fresh_of_map rfl

/-- The buffers they write. -/
abbrev indexOps_W : List (Ref sig .tc) := [main_v41, main_c_13, main_v42, main_v43, main_v44, main_v45, main_v46, main_c_14, main_v47, main_v48, main_v49, main_v50]

/-- They write these only. -/
theorem indexOps_writes : (indexOps : List (HloOp τ sig (Elt F))).Forall fun op => op.writes ⊆ (indexOps_W.map (Proc.devRef (τ := τ) .tc)).toFinset :=
  forall_writes_sub_of_map rfl

/-- The scores of staying, read from their columns. -/
abbrev stayOps : List (HloOp τ sig (Elt F)) :=
  [ TRef.nullary (.of main_call2_c : TRef sig ⟨S_, .i32⟩) (constantI S_ 32 0#32),
    TRef.unary (.of main_call2_c : TRef sig ⟨S_, .i32⟩) (.of main_call2_v0 : TRef sig ⟨S512x32x253, .i32⟩) (broadcastInDim S512x32x253 ![] bcast_S_S512x32x253),
    TRef.binary (.of main_v50 : TRef sig ⟨S512x32x253, .i32⟩) (.of main_call2_v0 : TRef sig ⟨S512x32x253, .i32⟩) (.of main_call2_v1 : TRef sig ⟨S512x32x253, .i1⟩) (cmpi .slt),
    TRef.nullary (.of main_call2_c_0 : TRef sig ⟨S_, .i32⟩) (constantI S_ 32 1280#32),
    TRef.unary (.of main_call2_c_0 : TRef sig ⟨S_, .i32⟩) (.of main_call2_v2 : TRef sig ⟨S512x32x253, .i32⟩) (broadcastInDim S512x32x253 ![] bcast_S_S512x32x253),
    TRef.binary (.of main_v50 : TRef sig ⟨S512x32x253, .i32⟩) (.of main_call2_v2 : TRef sig ⟨S512x32x253, .i32⟩) (.of main_call2_v3 : TRef sig ⟨S512x32x253, .i32⟩) addi,
    TRef.ternary (.of main_call2_v1 : TRef sig ⟨S512x32x253, .i1⟩) (.of main_call2_v3 : TRef sig ⟨S512x32x253, .i32⟩) (.of main_v50 : TRef sig ⟨S512x32x253, .i32⟩) (.of main_call2_v4 : TRef sig ⟨S512x32x253, .i32⟩) select,
    TRef.reshape (.of main_call2_v4 : TRef sig ⟨S512x32x253, .i32⟩) (.of main_call2_v5 : TRef sig ⟨S512x32x253x1, .i32⟩) (rfl : (.i32 : EltTy) = .i32) shapeCasts_S512x32x253_S512x32x253x1,
    TRef.nullary (.of main_call2_c_1 : TRef sig ⟨S1, .i32⟩) (constantI S1 32 1279#32),
    TRef.nullary (.of main_call2_c_2 : TRef sig ⟨S_, .i32⟩) (constantI S_ 32 0#32),
    TRef.unary (.of main_call2_c_2 : TRef sig ⟨S_, .i32⟩) (.of main_call2_v6 : TRef sig ⟨S512x32x253x1, .i32⟩) (broadcastInDim S512x32x253x1 ![] bcast_S_S512x32x253x1),
    TRef.binary (.of main_call2_v5 : TRef sig ⟨S512x32x253x1, .i32⟩) (.of main_call2_v6 : TRef sig ⟨S512x32x253x1, .i32⟩) (.of main_call2_v7 : TRef sig ⟨S512x32x253x1, .i1⟩) (cmpi .sge),
    TRef.unary (.of main_call2_c_1 : TRef sig ⟨S1, .i32⟩) (.of main_call2_v8 : TRef sig ⟨S1x1x1x1, .i32⟩) (broadcastInDim S1x1x1x1 ![3] bcast_S1_S1x1x1x1_3),
    TRef.unary (.of main_call2_v8 : TRef sig ⟨S1x1x1x1, .i32⟩) (.of main_call2_v9 : TRef sig ⟨S512x32x253x1, .i32⟩) (broadcastInDim S512x32x253x1 ![0, 1, 2, 3] bcast_S1x1x1x1_S512x32x253x1_0_1_2_3),
    TRef.binary (.of main_call2_v5 : TRef sig ⟨S512x32x253x1, .i32⟩) (.of main_call2_v9 : TRef sig ⟨S512x32x253x1, .i32⟩) (.of main_call2_v10 : TRef sig ⟨S512x32x253x1, .i1⟩) (cmpi .sle),
    TRef.binary (.of main_call2_v7 : TRef sig ⟨S512x32x253x1, .i1⟩) (.of main_call2_v10 : TRef sig ⟨S512x32x253x1, .i1⟩) (.of main_call2_v11 : TRef sig ⟨S512x32x253x1, .i1⟩) andi,
    TRef.nullary (.of main_call2_c_3 : TRef sig ⟨S_, .i1⟩) (constantI S_ 1 1#1),
    TRef.binary (.of main_call2_v11 : TRef sig ⟨S512x32x253x1, .i1⟩) (.of main_call2_c_3 : TRef sig ⟨S_, .i1⟩) (.of main_call2_v12 : TRef sig ⟨S512x32x253, .i1⟩) (fun x v => Host.reduce IntOp.andi x v reducesTo_S512x32x253x1_S512x32x253_d3 h_S_),
    TRef.binary (.of main_v21 : TRef sig ⟨S512x32x1280, .f32⟩) (.of main_call2_v5 : TRef sig ⟨S512x32x253x1, .i32⟩) (.of main_call2_v13 : TRef sig ⟨S512x32x253, .f32⟩) (fun x i => Host.gather gather_S512x32x1280_S512x32x253x1_S512x32x253_n_2_01_01_2_3_111 x i),
    TRef.nullary (.of main_call2_cst : TRef sig ⟨S_, .f32⟩) (constant S_ .f32 0x7FC00000#32),
    TRef.unary (.of main_call2_cst : TRef sig ⟨S_, .f32⟩) (.of main_call2_v14 : TRef sig ⟨S512x32x253, .f32⟩) (broadcastInDim S512x32x253 ![] bcast_S_S512x32x253),
    TRef.ternary (.of main_call2_v12 : TRef sig ⟨S512x32x253, .i1⟩) (.of main_call2_v13 : TRef sig ⟨S512x32x253, .f32⟩) (.of main_call2_v14 : TRef sig ⟨S512x32x253, .f32⟩) (.of main_v51 : TRef sig ⟨S512x32x253, .f32⟩) select ]

/-- They touch the TensorCore's buffers only. -/
theorem stayOps_sub : (stayOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- None allocates. -/
theorem stayOps_fresh : (stayOps : List (HloOp τ sig (Elt F))).Forall fun op => op.fresh = ∅ := forall_fresh_of_map rfl

/-- The buffers they write. -/
abbrev stayOps_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v51]

/-- They write these only. -/
theorem stayOps_writes : (stayOps : List (HloOp τ sig (Elt F))).Forall fun op => op.writes ⊆ (stayOps_W.map (Proc.devRef (τ := τ) .tc)).toFinset :=
  forall_writes_sub_of_map rfl

/-- The columns of moving, at every time. -/
abbrev wideOps : List (HloOp τ sig (Elt F)) :=
  [ unary main_v48 main_v52 (broadcastInDim S1x32x252 ![1, 2] bcast_S32x252_S1x32x252_1_2 : (⟨S32x252, .i32⟩ : BufTy).Contents (Elt F) → (⟨S1x32x252, .i32⟩ : BufTy).Contents (Elt F)),
    unary main_v52 main_v53 (broadcastInDim S512x32x252 ![0, 1, 2] bcast_S1x32x252_S512x32x252_0_1_2 : (⟨S1x32x252, .i32⟩ : BufTy).Contents (Elt F) → (⟨S512x32x252, .i32⟩ : BufTy).Contents (Elt F)) ]

/-- They touch the TensorCore's buffers only. -/
theorem wideOps_sub : (wideOps : List (HloOp τ sig (Elt F))).Forall fun op => op.bufs ⊆ tcRefs τ sig :=
  ⟨unary_bufs_sub .., unary_bufs_sub ..⟩

/-- None allocates. -/
theorem wideOps_fresh : (wideOps : List (HloOp τ sig (Elt F))).Forall fun op => op.fresh = ∅ := forall_fresh_of_map rfl

/-- The buffers they write. -/
abbrev wideOps_W : List (Ref sig .tc) := [main_v52, main_v53]

/-- They write these only. -/
theorem wideOps_writes : (wideOps : List (HloOp τ sig (Elt F))).Forall fun op => op.writes ⊆ (wideOps_W.map (Proc.devRef (τ := τ) .tc)).toFinset :=
  forall_writes_sub_of_map rfl

/-- The scores of moving, read from their columns. -/
abbrev moveOps : List (HloOp τ sig (Elt F)) :=
  [ TRef.nullary (.of main_call3_c : TRef sig ⟨S_, .i32⟩) (constantI S_ 32 0#32),
    TRef.unary (.of main_call3_c : TRef sig ⟨S_, .i32⟩) (.of main_call3_v0 : TRef sig ⟨S512x32x252, .i32⟩) (broadcastInDim S512x32x252 ![] bcast_S_S512x32x252),
    TRef.binary (.of main_v53 : TRef sig ⟨S512x32x252, .i32⟩) (.of main_call3_v0 : TRef sig ⟨S512x32x252, .i32⟩) (.of main_call3_v1 : TRef sig ⟨S512x32x252, .i1⟩) (cmpi .slt),
    TRef.nullary (.of main_call3_c_0 : TRef sig ⟨S_, .i32⟩) (constantI S_ 32 1280#32),
    TRef.unary (.of main_call3_c_0 : TRef sig ⟨S_, .i32⟩) (.of main_call3_v2 : TRef sig ⟨S512x32x252, .i32⟩) (broadcastInDim S512x32x252 ![] bcast_S_S512x32x252),
    TRef.binary (.of main_v53 : TRef sig ⟨S512x32x252, .i32⟩) (.of main_call3_v2 : TRef sig ⟨S512x32x252, .i32⟩) (.of main_call3_v3 : TRef sig ⟨S512x32x252, .i32⟩) addi,
    TRef.ternary (.of main_call3_v1 : TRef sig ⟨S512x32x252, .i1⟩) (.of main_call3_v3 : TRef sig ⟨S512x32x252, .i32⟩) (.of main_v53 : TRef sig ⟨S512x32x252, .i32⟩) (.of main_call3_v4 : TRef sig ⟨S512x32x252, .i32⟩) select,
    TRef.reshape (.of main_call3_v4 : TRef sig ⟨S512x32x252, .i32⟩) (.of main_call3_v5 : TRef sig ⟨S512x32x252x1, .i32⟩) (rfl : (.i32 : EltTy) = .i32) shapeCasts_S512x32x252_S512x32x252x1,
    TRef.nullary (.of main_call3_c_1 : TRef sig ⟨S1, .i32⟩) (constantI S1 32 1279#32),
    TRef.nullary (.of main_call3_c_2 : TRef sig ⟨S_, .i32⟩) (constantI S_ 32 0#32),
    TRef.unary (.of main_call3_c_2 : TRef sig ⟨S_, .i32⟩) (.of main_call3_v6 : TRef sig ⟨S512x32x252x1, .i32⟩) (broadcastInDim S512x32x252x1 ![] bcast_S_S512x32x252x1),
    TRef.binary (.of main_call3_v5 : TRef sig ⟨S512x32x252x1, .i32⟩) (.of main_call3_v6 : TRef sig ⟨S512x32x252x1, .i32⟩) (.of main_call3_v7 : TRef sig ⟨S512x32x252x1, .i1⟩) (cmpi .sge),
    TRef.unary (.of main_call3_c_1 : TRef sig ⟨S1, .i32⟩) (.of main_call3_v8 : TRef sig ⟨S1x1x1x1, .i32⟩) (broadcastInDim S1x1x1x1 ![3] bcast_S1_S1x1x1x1_3),
    TRef.unary (.of main_call3_v8 : TRef sig ⟨S1x1x1x1, .i32⟩) (.of main_call3_v9 : TRef sig ⟨S512x32x252x1, .i32⟩) (broadcastInDim S512x32x252x1 ![0, 1, 2, 3] bcast_S1x1x1x1_S512x32x252x1_0_1_2_3),
    TRef.binary (.of main_call3_v5 : TRef sig ⟨S512x32x252x1, .i32⟩) (.of main_call3_v9 : TRef sig ⟨S512x32x252x1, .i32⟩) (.of main_call3_v10 : TRef sig ⟨S512x32x252x1, .i1⟩) (cmpi .sle),
    TRef.binary (.of main_call3_v7 : TRef sig ⟨S512x32x252x1, .i1⟩) (.of main_call3_v10 : TRef sig ⟨S512x32x252x1, .i1⟩) (.of main_call3_v11 : TRef sig ⟨S512x32x252x1, .i1⟩) andi,
    TRef.nullary (.of main_call3_c_3 : TRef sig ⟨S_, .i1⟩) (constantI S_ 1 1#1),
    TRef.binary (.of main_call3_v11 : TRef sig ⟨S512x32x252x1, .i1⟩) (.of main_call3_c_3 : TRef sig ⟨S_, .i1⟩) (.of main_call3_v12 : TRef sig ⟨S512x32x252, .i1⟩) (fun x v => Host.reduce IntOp.andi x v reducesTo_S512x32x252x1_S512x32x252_d3 h_S_),
    TRef.binary (.of main_v21 : TRef sig ⟨S512x32x1280, .f32⟩) (.of main_call3_v5 : TRef sig ⟨S512x32x252x1, .i32⟩) (.of main_call3_v13 : TRef sig ⟨S512x32x252, .f32⟩) (fun x i => Host.gather gather_S512x32x1280_S512x32x252x1_S512x32x252_n_2_01_01_2_3_111 x i),
    TRef.nullary (.of main_call3_cst : TRef sig ⟨S_, .f32⟩) (constant S_ .f32 0x7FC00000#32),
    TRef.unary (.of main_call3_cst : TRef sig ⟨S_, .f32⟩) (.of main_call3_v14 : TRef sig ⟨S512x32x252, .f32⟩) (broadcastInDim S512x32x252 ![] bcast_S_S512x32x252),
    TRef.ternary (.of main_call3_v12 : TRef sig ⟨S512x32x252, .i1⟩) (.of main_call3_v13 : TRef sig ⟨S512x32x252, .f32⟩) (.of main_call3_v14 : TRef sig ⟨S512x32x252, .f32⟩) (.of main_v54 : TRef sig ⟨S512x32x252, .f32⟩) select ]

/-- They touch the TensorCore's buffers only. -/
theorem moveOps_sub : (moveOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- None allocates. -/
theorem moveOps_fresh : (moveOps : List (HloOp τ sig (Elt F))).Forall fun op => op.fresh = ∅ := forall_fresh_of_map rfl

/-- The buffers they write. -/
abbrev moveOps_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v54]

/-- They write these only. -/
theorem moveOps_writes : (moveOps : List (HloOp τ sig (Elt F))).Forall fun op => op.writes ⊆ (moveOps_W.map (Proc.devRef (τ := τ) .tc)).toFinset :=
  forall_writes_sub_of_map rfl

/-- The lengths in places, and the first row of the second loop. -/
abbrev rowOps : List (HloOp τ sig (Elt F)) :=
  [ nullary main_c_15 (constantI S_ 32 1#32),
    unary main_c_15 main_v55 (broadcastInDim S32 ![] bcast_S_S32 : (⟨S_, .i32⟩ : BufTy).Contents (Elt F) → (⟨S32, .i32⟩ : BufTy).Contents (Elt F)),
    binary main_arg2 main_v55 main_v56 (addi : (⟨S32, .i32⟩ : BufTy).Contents (Elt F) → (⟨S32, .i32⟩ : BufTy).Contents (Elt F) → (⟨S32, .i32⟩ : BufTy).Contents (Elt F)),
    nullary main_c_16 (constantI S_ 32 4#32),
    unary main_c_16 main_v57 (broadcastInDim S32 ![] bcast_S_S32 : (⟨S_, .i32⟩ : BufTy).Contents (Elt F) → (⟨S32, .i32⟩ : BufTy).Contents (Elt F)),
    binary main_v56 main_v57 main_v58 (subi : (⟨S32, .i32⟩ : BufTy).Contents (Elt F) → (⟨S32, .i32⟩ : BufTy).Contents (Elt F) → (⟨S32, .i32⟩ : BufTy).Contents (Elt F)),
    nullary main_cst_17 (constant S_ .f32 0xFF800000#32),
    unary main_cst_17 main_v59 (broadcastInDim S32x253 ![] bcast_S_S32x253 : (⟨S_, .f32⟩ : BufTy).Contents (Elt F) → (⟨S32x253, .f32⟩ : BufTy).Contents (Elt F)),
    nullary main_c_18 (constantI S_ 32 0#32),
    unary main_c_18 main_v60 (broadcastInDim S1 ![] bcast_S_S1 : (⟨S_, .i32⟩ : BufTy).Contents (Elt F) → (⟨S1, .i32⟩ : BufTy).Contents (Elt F)),
    nullary main_cst_19 (constant S_ .f32 0x00000000#32),
    unary main_cst_19 main_v61 (broadcastInDim S32 ![] bcast_S_S32 : (⟨S_, .f32⟩ : BufTy).Contents (Elt F) → (⟨S32, .f32⟩ : BufTy).Contents (Elt F)),
    ternary main_v59 main_v60 main_v61 main_v62 ((fun x i u => Host.scatter scatter_S32x253_S1_S32_0_1_1_0 (fun _ b => b) x i u) : (⟨S32x253, .f32⟩ : BufTy).Contents (Elt F) → (⟨S1, .i32⟩ : BufTy).Contents (Elt F) → (⟨S32, .f32⟩ : BufTy).Contents (Elt F) → (⟨S32x253, .f32⟩ : BufTy).Contents (Elt F)),
    nullary main_cst_20 (constant S_ .f32 0xFF800000#32) ]

/-- They touch the TensorCore's buffers only. -/
theorem rowOps_sub : (rowOps : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., nullary_bufs_sub ..⟩

/-- None allocates. -/
theorem rowOps_fresh : (rowOps : List (HloOp τ sig (Elt F))).Forall fun op => op.fresh = ∅ := forall_fresh_of_map rfl

/-- The buffers they write. -/
abbrev rowOps_W : List (Ref sig .tc) := [main_c_15, main_v55, main_v56, main_c_16, main_v57, main_v58, main_cst_17, main_v59, main_c_18, main_v60, main_cst_19, main_v61, main_v62, main_cst_20]

/-- They write these only. -/
theorem rowOps_writes : (rowOps : List (HloOp τ sig (Elt F))).Forall fun op => op.writes ⊆ (rowOps_W.map (Proc.devRef (τ := τ) .tc)).toFinset :=
  forall_writes_sub_of_map rfl

/-- The scores of moving, nothing coming into the first place. -/
abbrev padOps : List (HloOp τ sig (Elt F)) :=
  [ TRef.unary (.of main_cst_20 : TRef sig ⟨S_, .f32⟩) (.of main_call4_v0 : TRef sig ⟨S_, .f32⟩) id,
    TRef.binary (.of main_v54 : TRef sig ⟨S512x32x252, .f32⟩) (.of main_call4_v0 : TRef sig ⟨S_, .f32⟩) (.of main_v63 : TRef sig ⟨S512x32x253, .f32⟩) (fun x v => pad S512x32x253 ![0, 0, 1] ![0, 0, 0] ![0, 0, 0] x v pads_S512x32x252_S512x32x253_000_000_100 h_S_) ]

/-- They touch the TensorCore's buffers only. -/
theorem padOps_sub : (padOps : List (HloOp τ sig (Elt F))).Forall fun op => op.bufs ⊆ tcRefs τ sig :=
  ⟨unary_bufs_sub .., binary_bufs_sub ..⟩

/-- None allocates. -/
theorem padOps_fresh : (padOps : List (HloOp τ sig (Elt F))).Forall fun op => op.fresh = ∅ := forall_fresh_of_map rfl

/-- The buffers they write. -/
abbrev padOps_W : List (Ref sig .tc) := [main_call4_v0, main_v63]

/-- They write these only. -/
theorem padOps_writes : (padOps : List (HloOp τ sig (Elt F))).Forall fun op => op.writes ⊆ (padOps_W.map (Proc.devRef (τ := τ) .tc)).toFinset :=
  forall_writes_sub_of_map rfl

/-- The second loop's carried values. -/
abbrev enterOps : List (HloOp τ sig (Elt F)) :=
  [ nullary main_c_21 (constantI S_ 32 0#32),
    unary main_v51 main_v64_0 id,
    unary main_v63 main_v64_1 id,
    unary main_c_21 main_v64_2 id,
    unary main_v62 main_v64_3 id ]

/-- They touch the TensorCore's buffers only. -/
theorem enterOps_sub : (enterOps : List (HloOp τ sig (Elt F))).Forall fun op => op.bufs ⊆ tcRefs τ sig :=
  ⟨nullary_bufs_sub .., unary_bufs_sub .., unary_bufs_sub .., unary_bufs_sub .., unary_bufs_sub ..⟩

/-- None allocates. -/
theorem enterOps_fresh : (enterOps : List (HloOp τ sig (Elt F))).Forall fun op => op.fresh = ∅ := forall_fresh_of_map rfl

/-- The buffers they write. -/
abbrev enterOps_W : List (Ref sig .tc) := [main_c_21, main_v64_0, main_v64_1, main_v64_2, main_v64_3]

/-- They write these only. -/
theorem enterOps_writes : (enterOps : List (HloOp τ sig (Elt F))).Forall fun op => op.writes ⊆ (enterOps_W.map (Proc.devRef (τ := τ) .tc)).toFinset :=
  forall_writes_sub_of_map rfl

/-- The last place of each target. -/
abbrev lastOps : List (HloOp τ sig (Elt F)) :=
  [ nullary main_c_22 (constantI S_ 32 1#32),
    unary main_c_22 main_v65 (broadcastInDim S32 ![] bcast_S_S32 : (⟨S_, .i32⟩ : BufTy).Contents (Elt F) → (⟨S32, .i32⟩ : BufTy).Contents (Elt F)),
    binary main_v58 main_v65 main_v66 (subi : (⟨S32, .i32⟩ : BufTy).Contents (Elt F) → (⟨S32, .i32⟩ : BufTy).Contents (Elt F) → (⟨S32, .i32⟩ : BufTy).Contents (Elt F)),
    unary main_v66 main_v67 (broadcastInDim S32x1 ![0] bcast_S32_S32x1_0 : (⟨S32, .i32⟩ : BufTy).Contents (Elt F) → (⟨S32x1, .i32⟩ : BufTy).Contents (Elt F)) ]

/-- They touch the TensorCore's buffers only. -/
theorem lastOps_sub : (lastOps : List (HloOp τ sig (Elt F))).Forall fun op => op.bufs ⊆ tcRefs τ sig :=
  ⟨nullary_bufs_sub .., unary_bufs_sub .., binary_bufs_sub .., unary_bufs_sub ..⟩

/-- None allocates. -/
theorem lastOps_fresh : (lastOps : List (HloOp τ sig (Elt F))).Forall fun op => op.fresh = ∅ := forall_fresh_of_map rfl

/-- The buffers they write. -/
abbrev lastOps_W : List (Ref sig .tc) := [main_c_22, main_v65, main_v66, main_v67]

/-- They write these only. -/
theorem lastOps_writes : (lastOps : List (HloOp τ sig (Elt F))).Forall fun op => op.writes ⊆ (lastOps_W.map (Proc.devRef (τ := τ) .tc)).toFinset :=
  forall_writes_sub_of_map rfl

/-- The row read at the last places. -/
abbrev pickOps : List (HloOp τ sig (Elt F)) :=
  [ TRef.nullary (.of main_call8_c : TRef sig ⟨S_, .i32⟩) (constantI S_ 32 0#32),
    TRef.unary (.of main_call8_c : TRef sig ⟨S_, .i32⟩) (.of main_call8_v0 : TRef sig ⟨S32x1, .i32⟩) (broadcastInDim S32x1 ![] bcast_S_S32x1),
    TRef.binary (.of main_v67 : TRef sig ⟨S32x1, .i32⟩) (.of main_call8_v0 : TRef sig ⟨S32x1, .i32⟩) (.of main_call8_v1 : TRef sig ⟨S32x1, .i1⟩) (cmpi .slt),
    TRef.nullary (.of main_call8_c_0 : TRef sig ⟨S_, .i32⟩) (constantI S_ 32 253#32),
    TRef.unary (.of main_call8_c_0 : TRef sig ⟨S_, .i32⟩) (.of main_call8_v2 : TRef sig ⟨S32x1, .i32⟩) (broadcastInDim S32x1 ![] bcast_S_S32x1),
    TRef.binary (.of main_v67 : TRef sig ⟨S32x1, .i32⟩) (.of main_call8_v2 : TRef sig ⟨S32x1, .i32⟩) (.of main_call8_v3 : TRef sig ⟨S32x1, .i32⟩) addi,
    TRef.ternary (.of main_call8_v1 : TRef sig ⟨S32x1, .i1⟩) (.of main_call8_v3 : TRef sig ⟨S32x1, .i32⟩) (.of main_v67 : TRef sig ⟨S32x1, .i32⟩) (.of main_call8_v4 : TRef sig ⟨S32x1, .i32⟩) select,
    TRef.reshape (.of main_call8_v4 : TRef sig ⟨S32x1, .i32⟩) (.of main_call8_v5 : TRef sig ⟨S32x1x1, .i32⟩) (rfl : (.i32 : EltTy) = .i32) shapeCasts_S32x1_S32x1x1,
    TRef.nullary (.of main_call8_c_1 : TRef sig ⟨S1, .i32⟩) (constantI S1 32 252#32),
    TRef.nullary (.of main_call8_c_2 : TRef sig ⟨S_, .i32⟩) (constantI S_ 32 0#32),
    TRef.unary (.of main_call8_c_2 : TRef sig ⟨S_, .i32⟩) (.of main_call8_v6 : TRef sig ⟨S32x1x1, .i32⟩) (broadcastInDim S32x1x1 ![] bcast_S_S32x1x1),
    TRef.binary (.of main_call8_v5 : TRef sig ⟨S32x1x1, .i32⟩) (.of main_call8_v6 : TRef sig ⟨S32x1x1, .i32⟩) (.of main_call8_v7 : TRef sig ⟨S32x1x1, .i1⟩) (cmpi .sge),
    TRef.unary (.of main_call8_c_1 : TRef sig ⟨S1, .i32⟩) (.of main_call8_v8 : TRef sig ⟨S1x1x1, .i32⟩) (broadcastInDim S1x1x1 ![2] bcast_S1_S1x1x1_2),
    TRef.unary (.of main_call8_v8 : TRef sig ⟨S1x1x1, .i32⟩) (.of main_call8_v9 : TRef sig ⟨S32x1x1, .i32⟩) (broadcastInDim S32x1x1 ![0, 1, 2] bcast_S1x1x1_S32x1x1_0_1_2),
    TRef.binary (.of main_call8_v5 : TRef sig ⟨S32x1x1, .i32⟩) (.of main_call8_v9 : TRef sig ⟨S32x1x1, .i32⟩) (.of main_call8_v10 : TRef sig ⟨S32x1x1, .i1⟩) (cmpi .sle),
    TRef.binary (.of main_call8_v7 : TRef sig ⟨S32x1x1, .i1⟩) (.of main_call8_v10 : TRef sig ⟨S32x1x1, .i1⟩) (.of main_call8_v11 : TRef sig ⟨S32x1x1, .i1⟩) andi,
    TRef.nullary (.of main_call8_c_3 : TRef sig ⟨S_, .i1⟩) (constantI S_ 1 1#1),
    TRef.binary (.of main_call8_v11 : TRef sig ⟨S32x1x1, .i1⟩) (.of main_call8_c_3 : TRef sig ⟨S_, .i1⟩) (.of main_call8_v12 : TRef sig ⟨S32x1, .i1⟩) (fun x v => Host.reduce IntOp.andi x v reducesTo_S32x1x1_S32x1_d2 h_S_),
    TRef.binary (.of main_v64_3 : TRef sig ⟨S32x253, .f32⟩) (.of main_call8_v5 : TRef sig ⟨S32x1x1, .i32⟩) (.of main_call8_v13 : TRef sig ⟨S32x1, .f32⟩) (fun x i => Host.gather gather_S32x253_S32x1x1_S32x1_n_1_0_0_1_2_11 x i),
    TRef.nullary (.of main_call8_cst : TRef sig ⟨S_, .f32⟩) (constant S_ .f32 0x7FC00000#32),
    TRef.unary (.of main_call8_cst : TRef sig ⟨S_, .f32⟩) (.of main_call8_v14 : TRef sig ⟨S32x1, .f32⟩) (broadcastInDim S32x1 ![] bcast_S_S32x1),
    TRef.ternary (.of main_call8_v12 : TRef sig ⟨S32x1, .i1⟩) (.of main_call8_v13 : TRef sig ⟨S32x1, .f32⟩) (.of main_call8_v14 : TRef sig ⟨S32x1, .f32⟩) (.of main_v68 : TRef sig ⟨S32x1, .f32⟩) select ]

/-- They touch the TensorCore's buffers only. -/
theorem pickOps_sub : (pickOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- None allocates. -/
theorem pickOps_fresh : (pickOps : List (HloOp τ sig (Elt F))).Forall fun op => op.fresh = ∅ := forall_fresh_of_map rfl

/-- The buffers they write. -/
abbrev pickOps_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v68]

/-- They write these only. -/
theorem pickOps_writes : (pickOps : List (HloOp τ sig (Elt F))).Forall fun op => op.writes ⊆ (pickOps_W.map (Proc.devRef (τ := τ) .tc)).toFinset :=
  forall_writes_sub_of_map rfl

/-- The mean of the losses. -/
abbrev meanOps : List (HloOp τ sig (Elt F)) :=
  [ reshape main_v68 main_v69 (rfl : (.f32 : EltTy) = .f32) shapeCasts_S32x1_S32,
    unary main_arg2 main_v70 (sitofp .f32 : (⟨S32, .i32⟩ : BufTy).Contents (Elt F) → (⟨S32, .f32⟩ : BufTy).Contents (Elt F)),
    binary main_v69 main_v70 main_v71 (Host.divf : (⟨S32, .f32⟩ : BufTy).Contents (Elt F) → (⟨S32, .f32⟩ : BufTy).Contents (Elt F) → (⟨S32, .f32⟩ : BufTy).Contents (Elt F)),
    unary main_v71 main_v72 (Host.negf : (⟨S32, .f32⟩ : BufTy).Contents (Elt F) → (⟨S32, .f32⟩ : BufTy).Contents (Elt F)),
    nullary main_cst_23 (constant S_ .f32 0x00000000#32),
    binary main_v72 main_cst_23 main_v73 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_24 (constant S_ .f32 0x42000000#32),
    binary main_v73 main_cst_24 main_v74 (Host.divf : (⟨S_, .f32⟩ : BufTy).Contents (Elt F) → (⟨S_, .f32⟩ : BufTy).Contents (Elt F) → (⟨S_, .f32⟩ : BufTy).Contents (Elt F)) ]

/-- They touch the TensorCore's buffers only. -/
theorem meanOps_sub : (meanOps : List (HloOp τ sig (Elt F))).Forall fun op => op.bufs ⊆ tcRefs τ sig :=
  ⟨reshape_bufs_sub .., unary_bufs_sub .., binary_bufs_sub .., unary_bufs_sub .., nullary_bufs_sub .., binary_bufs_sub .., nullary_bufs_sub .., binary_bufs_sub ..⟩

/-- None allocates. -/
theorem meanOps_fresh : (meanOps : List (HloOp τ sig (Elt F))).Forall fun op => op.fresh = ∅ := forall_fresh_of_map rfl

/-- The buffers they write. -/
abbrev meanOps_W : List (Ref sig .tc) := [main_v69, main_v70, main_v71, main_v72, main_cst_23, main_v73, main_cst_24, main_v74]

/-- They write these only. -/
theorem meanOps_writes : (meanOps : List (HloOp τ sig (Elt F))).Forall fun op => op.writes ⊆ (meanOps_W.map (Proc.devRef (τ := τ) .tc)).toFinset :=
  forall_writes_sub_of_map rfl

/-- The scores of one time. -/
abbrev frameOps : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.nullary (.of main_while0b_call0_c_1 : TRef sig ⟨S_, .i32⟩) (constantI S_ 32 0#32),
    TRef.unaryIndexed (.of main_v2_0 : TRef sig ⟨S512x32x256x5, .f32⟩) ![(.of main_v2_2 : TRef sig ⟨S_, .i32⟩), (.of main_while0b_call0_c : TRef sig ⟨S_, .i32⟩), (.of main_while0b_call0_c_0 : TRef sig ⟨S_, .i32⟩), (.of main_while0b_call0_c_1 : TRef sig ⟨S_, .i32⟩)] (.of main_while0b_call0_v0 : TRef sig ⟨S1x32x256x5, .f32⟩) (fun x i => Host.dynamicSlice S1x32x256x5 x (fun k => (i k (Shape.Idx.first h_S_)).toInt) sliceFits_S512x32x256x5_S1x32x256x5),
    TRef.reshape (.of main_while0b_call0_v0 : TRef sig ⟨S1x32x256x5, .f32⟩) (.of main_while0b_v75 : TRef sig ⟨S32x256x5, .f32⟩) (rfl : (.f32 : EltTy) = .f32) shapeCasts_S1x32x256x5_S32x256x5 ]

/-- They touch the TensorCore's buffers only. -/
theorem frameOps_sub : (frameOps : List (HloOp τ sig (Elt F))).Forall fun op => op.bufs ⊆ tcRefs τ sig :=
  ⟨nullary_bufs_sub .., nullary_bufs_sub .., nullary_bufs_sub .., unaryIndexed_bufs_sub .., reshape_bufs_sub ..⟩

/-- None allocates. -/
theorem frameOps_fresh : (frameOps : List (HloOp τ sig (Elt F))).Forall fun op => op.fresh = ∅ := forall_fresh_of_map rfl

/-- The buffers they write. -/
abbrev frameOps_W : List (Ref sig .tc) := [main_while0b_call0_c, main_while0b_call0_c_0, main_while0b_call0_c_1, main_while0b_call0_v0, main_while0b_v75]

/-- They write these only. -/
theorem frameOps_writes : (frameOps : List (HloOp τ sig (Elt F))).Forall fun op => op.writes ⊆ (frameOps_W.map (Proc.devRef (τ := τ) .tc)).toFinset :=
  forall_writes_sub_of_map rfl

/-- The CRF row's step. -/
abbrev crfOps : List (HloOp τ sig (Elt F)) :=
  [ nullary main_while0b_c_28 (constantI S_ 32 0#32),
    unary main_while0b_c_28 main_while0b_v76 (broadcastInDim S256x5 ![] bcast_S_S256x5 : (⟨S_, .i32⟩ : BufTy).Contents (Elt F) → (⟨S256x5, .i32⟩ : BufTy).Contents (Elt F)),
    binary main_v2_1 main_while0b_v76 main_while0b_v77 (cmpi .slt : (⟨S256x5, .i32⟩ : BufTy).Contents (Elt F) → (⟨S256x5, .i32⟩ : BufTy).Contents (Elt F) → (⟨S256x5, .i1⟩ : BufTy).Contents (Elt F)),
    nullary main_while0b_c_29 (constantI S_ 32 256#32),
    unary main_while0b_c_29 main_while0b_v78 (broadcastInDim S256x5 ![] bcast_S_S256x5 : (⟨S_, .i32⟩ : BufTy).Contents (Elt F) → (⟨S256x5, .i32⟩ : BufTy).Contents (Elt F)),
    binary main_v2_1 main_while0b_v78 main_while0b_v79 (addi : (⟨S256x5, .i32⟩ : BufTy).Contents (Elt F) → (⟨S256x5, .i32⟩ : BufTy).Contents (Elt F) → (⟨S256x5, .i32⟩ : BufTy).Contents (Elt F)),
    ternary main_while0b_v77 main_while0b_v79 main_v2_1 main_while0b_v80 (select : (⟨S256x5, .i1⟩ : BufTy).Contents (Elt F) → (⟨S256x5, .i32⟩ : BufTy).Contents (Elt F) → (⟨S256x5, .i32⟩ : BufTy).Contents (Elt F) → (⟨S256x5, .i32⟩ : BufTy).Contents (Elt F)),
    unary main_while0b_v80 main_while0b_v81 (broadcastInDim S256x5x1 ![0, 1] bcast_S256x5_S256x5x1_0_1 : (⟨S256x5, .i32⟩ : BufTy).Contents (Elt F) → (⟨S256x5x1, .i32⟩ : BufTy).Contents (Elt F)),
    binary main_v2_3 main_while0b_v81 main_while0b_v82 ((fun x i => Host.gather gather_S32x256_S256x5x1_S32x256x5_0_1_n_n_1_2_321 x i) : (⟨S32x256, .f32⟩ : BufTy).Contents (Elt F) → (⟨S256x5x1, .i32⟩ : BufTy).Contents (Elt F) → (⟨S32x256x5, .f32⟩ : BufTy).Contents (Elt F)),
    binary main_while0b_v75 main_while0b_v82 main_while0b_v83 (addf : (⟨S32x256x5, .f32⟩ : BufTy).Contents (Elt F) → (⟨S32x256x5, .f32⟩ : BufTy).Contents (Elt F) → (⟨S32x256x5, .f32⟩ : BufTy).Contents (Elt F)),
    nullary main_while0b_cst_30 (constant S_ .f32 0xFF800000#32),
    binary main_while0b_v83 main_while0b_cst_30 main_while0b_v84 ((fun x v => Host.reduce FloatOps.maximumf x v reducesTo_S32x256x5_S32x256_d2 h_S_) : (⟨S32x256x5, .f32⟩ : BufTy).Contents (Elt F) → (⟨S_, .f32⟩ : BufTy).Contents (Elt F) → (⟨S32x256, .f32⟩ : BufTy).Contents (Elt F)),
    unary main_while0b_v84 main_while0b_v85 (Host.absf : (⟨S32x256, .f32⟩ : BufTy).Contents (Elt F) → (⟨S32x256, .f32⟩ : BufTy).Contents (Elt F)),
    nullary main_while0b_cst_31 (constant S_ .f32 0x7F800000#32),
    unary main_while0b_cst_31 main_while0b_v86 (broadcastInDim S32x256 ![] bcast_S_S32x256 : (⟨S_, .f32⟩ : BufTy).Contents (Elt F) → (⟨S32x256, .f32⟩ : BufTy).Contents (Elt F)),
    binary main_while0b_v85 main_while0b_v86 main_while0b_v87 (cmpf .olt : (⟨S32x256, .f32⟩ : BufTy).Contents (Elt F) → (⟨S32x256, .f32⟩ : BufTy).Contents (Elt F) → (⟨S32x256, .i1⟩ : BufTy).Contents (Elt F)),
    nullary main_while0b_cst_32 (constant S_ .f32 0x00000000#32),
    unary main_while0b_cst_32 main_while0b_v88 (broadcastInDim S32x256 ![] bcast_S_S32x256 : (⟨S_, .f32⟩ : BufTy).Contents (Elt F) → (⟨S32x256, .f32⟩ : BufTy).Contents (Elt F)),
    ternary main_while0b_v87 main_while0b_v84 main_while0b_v88 main_while0b_v89 (select : (⟨S32x256, .i1⟩ : BufTy).Contents (Elt F) → (⟨S32x256, .f32⟩ : BufTy).Contents (Elt F) → (⟨S32x256, .f32⟩ : BufTy).Contents (Elt F) → (⟨S32x256, .f32⟩ : BufTy).Contents (Elt F)),
    unary main_while0b_v89 main_while0b_v90 (broadcastInDim S32x256x1 ![0, 1] bcast_S32x256_S32x256x1_0_1 : (⟨S32x256, .f32⟩ : BufTy).Contents (Elt F) → (⟨S32x256x1, .f32⟩ : BufTy).Contents (Elt F)),
    unary main_while0b_v90 main_while0b_v91 (broadcastInDim S32x256x5 ![0, 1, 2] bcast_S32x256x1_S32x256x5_0_1_2 : (⟨S32x256x1, .f32⟩ : BufTy).Contents (Elt F) → (⟨S32x256x5, .f32⟩ : BufTy).Contents (Elt F)),
    binary main_while0b_v83 main_while0b_v91 main_while0b_v92 (subf : (⟨S32x256x5, .f32⟩ : BufTy).Contents (Elt F) → (⟨S32x256x5, .f32⟩ : BufTy).Contents (Elt F) → (⟨S32x256x5, .f32⟩ : BufTy).Contents (Elt F)),
    unary main_while0b_v92 main_while0b_v93 (Host.exp : (⟨S32x256x5, .f32⟩ : BufTy).Contents (Elt F) → (⟨S32x256x5, .f32⟩ : BufTy).Contents (Elt F)),
    nullary main_while0b_cst_33 (constant S_ .f32 0x00000000#32),
    binary main_while0b_v93 main_while0b_cst_33 main_while0b_v94 ((fun x v => Host.reduceAdd x v reducesTo_S32x256x5_S32x256_d2 h_S_) : (⟨S32x256x5, .f32⟩ : BufTy).Contents (Elt F) → (⟨S_, .f32⟩ : BufTy).Contents (Elt F) → (⟨S32x256, .f32⟩ : BufTy).Contents (Elt F)),
    unary main_while0b_v94 main_while0b_v95 (Host.log : (⟨S32x256, .f32⟩ : BufTy).Contents (Elt F) → (⟨S32x256, .f32⟩ : BufTy).Contents (Elt F)),
    binary main_while0b_v95 main_while0b_v89 main_while0b_v96 (addf : (⟨S32x256, .f32⟩ : BufTy).Contents (Elt F) → (⟨S32x256, .f32⟩ : BufTy).Contents (Elt F) → (⟨S32x256, .f32⟩ : BufTy).Contents (Elt F)),
    nullary main_while0b_c_34 (constantI S_ 32 1#32),
    binary main_v2_2 main_while0b_c_34 main_while0b_v97 (addi : (⟨S_, .i32⟩ : BufTy).Contents (Elt F) → (⟨S_, .i32⟩ : BufTy).Contents (Elt F) → (⟨S_, .i32⟩ : BufTy).Contents (Elt F)),
    unary main_while0b_v97 main_v2_2 id,
    unary main_while0b_v96 main_v2_3 id ]

/-- They touch the TensorCore's buffers only. -/
theorem crfOps_sub : (crfOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., ternary_bufs_sub .., unary_bufs_sub .., unary_bufs_sub .., binary_bufs_sub .., unary_bufs_sub .., nullary_bufs_sub .., binary_bufs_sub .., unary_bufs_sub .., binary_bufs_sub .., nullary_bufs_sub .., binary_bufs_sub .., unary_bufs_sub .., unary_bufs_sub ..⟩

/-- None allocates. -/
theorem crfOps_fresh : (crfOps : List (HloOp τ sig (Elt F))).Forall fun op => op.fresh = ∅ := forall_fresh_of_map rfl

/-- The buffers they write. -/
abbrev crfOps_W : List (Ref sig .tc) := [main_while0b_c_28, main_while0b_v76, main_while0b_v77, main_while0b_c_29, main_while0b_v78, main_while0b_v79, main_while0b_v80, main_while0b_v81, main_while0b_v82, main_while0b_v83, main_while0b_cst_30, main_while0b_v84, main_while0b_v85, main_while0b_cst_31, main_while0b_v86, main_while0b_v87, main_while0b_cst_32, main_while0b_v88, main_while0b_v89, main_while0b_v90, main_while0b_v91, main_while0b_v92, main_while0b_v93, main_while0b_cst_33, main_while0b_v94, main_while0b_v95, main_while0b_v96, main_while0b_c_34, main_while0b_v97, main_v2_2, main_v2_3]

/-- They write these only. -/
theorem crfOps_writes : (crfOps : List (HloOp τ sig (Elt F))).Forall fun op => op.writes ⊆ (crfOps_W.map (Proc.devRef (τ := τ) .tc)).toFinset :=
  forall_writes_sub_of_map rfl

/-- The scores of staying at one time. -/
abbrev stayAtOps : List (HloOp τ sig (Elt F)) :=
  [ TRef.nullary (.of main_while1b_call5_c : TRef sig ⟨S_, .i32⟩) (constantI S_ 32 0#32),
    TRef.nullary (.of main_while1b_call5_c_0 : TRef sig ⟨S_, .i32⟩) (constantI S_ 32 0#32),
    TRef.unaryIndexed (.of main_v64_0 : TRef sig ⟨S512x32x253, .f32⟩) ![(.of main_v64_2 : TRef sig ⟨S_, .i32⟩), (.of main_while1b_call5_c : TRef sig ⟨S_, .i32⟩), (.of main_while1b_call5_c_0 : TRef sig ⟨S_, .i32⟩)] (.of main_while1b_call5_v0 : TRef sig ⟨S1x32x253, .f32⟩) (fun x i => Host.dynamicSlice S1x32x253 x (fun k => (i k (Shape.Idx.first h_S_)).toInt) sliceFits_S512x32x253_S1x32x253),
    TRef.reshape (.of main_while1b_call5_v0 : TRef sig ⟨S1x32x253, .f32⟩) (.of main_while1b_v75 : TRef sig ⟨S32x253, .f32⟩) (rfl : (.f32 : EltTy) = .f32) shapeCasts_S1x32x253_S32x253 ]

/-- They touch the TensorCore's buffers only. -/
theorem stayAtOps_sub : (stayAtOps : List (HloOp τ sig (Elt F))).Forall fun op => op.bufs ⊆ tcRefs τ sig :=
  ⟨nullary_bufs_sub .., nullary_bufs_sub .., unaryIndexed_bufs_sub .., reshape_bufs_sub ..⟩

/-- None allocates. -/
theorem stayAtOps_fresh : (stayAtOps : List (HloOp τ sig (Elt F))).Forall fun op => op.fresh = ∅ := forall_fresh_of_map rfl

/-- The buffers they write. -/
abbrev stayAtOps_W : List (Ref sig .tc) := [main_while1b_call5_c, main_while1b_call5_c_0, main_while1b_call5_v0, main_while1b_v75]

/-- They write these only. -/
theorem stayAtOps_writes : (stayAtOps : List (HloOp τ sig (Elt F))).Forall fun op => op.writes ⊆ (stayAtOps_W.map (Proc.devRef (τ := τ) .tc)).toFinset :=
  forall_writes_sub_of_map rfl

/-- The scores of moving at one time. -/
abbrev moveAtOps : List (HloOp τ sig (Elt F)) :=
  [ TRef.nullary (.of main_while1b_call6_c : TRef sig ⟨S_, .i32⟩) (constantI S_ 32 0#32),
    TRef.nullary (.of main_while1b_call6_c_0 : TRef sig ⟨S_, .i32⟩) (constantI S_ 32 0#32),
    TRef.unaryIndexed (.of main_v64_1 : TRef sig ⟨S512x32x253, .f32⟩) ![(.of main_v64_2 : TRef sig ⟨S_, .i32⟩), (.of main_while1b_call6_c : TRef sig ⟨S_, .i32⟩), (.of main_while1b_call6_c_0 : TRef sig ⟨S_, .i32⟩)] (.of main_while1b_call6_v0 : TRef sig ⟨S1x32x253, .f32⟩) (fun x i => Host.dynamicSlice S1x32x253 x (fun k => (i k (Shape.Idx.first h_S_)).toInt) sliceFits_S512x32x253_S1x32x253),
    TRef.reshape (.of main_while1b_call6_v0 : TRef sig ⟨S1x32x253, .f32⟩) (.of main_while1b_v76 : TRef sig ⟨S32x253, .f32⟩) (rfl : (.f32 : EltTy) = .f32) shapeCasts_S1x32x253_S32x253 ]

/-- They touch the TensorCore's buffers only. -/
theorem moveAtOps_sub : (moveAtOps : List (HloOp τ sig (Elt F))).Forall fun op => op.bufs ⊆ tcRefs τ sig :=
  ⟨nullary_bufs_sub .., nullary_bufs_sub .., unaryIndexed_bufs_sub .., reshape_bufs_sub ..⟩

/-- None allocates. -/
theorem moveAtOps_fresh : (moveAtOps : List (HloOp τ sig (Elt F))).Forall fun op => op.fresh = ∅ := forall_fresh_of_map rfl

/-- The buffers they write. -/
abbrev moveAtOps_W : List (Ref sig .tc) := [main_while1b_call6_c, main_while1b_call6_c_0, main_while1b_call6_v0, main_while1b_v76]

/-- They write these only. -/
theorem moveAtOps_writes : (moveAtOps : List (HloOp τ sig (Elt F))).Forall fun op => op.writes ⊆ (moveAtOps_W.map (Proc.devRef (τ := τ) .tc)).toFinset :=
  forall_writes_sub_of_map rfl

/-- The row without its last place. -/
abbrev shiftOps : List (HloOp τ sig (Elt F)) :=
  [ unary main_v64_3 main_while1b_v77 ((extractStridedSlice S32x252 ![0, 0] · slices_S32x253_S32x252_0_0) : (⟨S32x253, .f32⟩ : BufTy).Contents (Elt F) → (⟨S32x252, .f32⟩ : BufTy).Contents (Elt F)),
    nullary main_while1b_cst_28 (constant S_ .f32 0xFF800000#32) ]

/-- They touch the TensorCore's buffers only. -/
theorem shiftOps_sub : (shiftOps : List (HloOp τ sig (Elt F))).Forall fun op => op.bufs ⊆ tcRefs τ sig :=
  ⟨unary_bufs_sub .., nullary_bufs_sub ..⟩

/-- None allocates. -/
theorem shiftOps_fresh : (shiftOps : List (HloOp τ sig (Elt F))).Forall fun op => op.fresh = ∅ := forall_fresh_of_map rfl

/-- The buffers they write. -/
abbrev shiftOps_W : List (Ref sig .tc) := [main_while1b_v77, main_while1b_cst_28]

/-- They write these only. -/
theorem shiftOps_writes : (shiftOps : List (HloOp τ sig (Elt F))).Forall fun op => op.writes ⊆ (shiftOps_W.map (Proc.devRef (τ := τ) .tc)).toFinset :=
  forall_writes_sub_of_map rfl

/-- The row one place along. -/
abbrev shiftPadOps : List (HloOp τ sig (Elt F)) :=
  [ TRef.unary (.of main_while1b_cst_28 : TRef sig ⟨S_, .f32⟩) (.of main_while1b_call7_v0 : TRef sig ⟨S_, .f32⟩) id,
    TRef.binary (.of main_while1b_v77 : TRef sig ⟨S32x252, .f32⟩) (.of main_while1b_call7_v0 : TRef sig ⟨S_, .f32⟩) (.of main_while1b_v78 : TRef sig ⟨S32x253, .f32⟩) (fun x v => pad S32x253 ![0, 1] ![0, 0] ![0, 0] x v pads_S32x252_S32x253_000_100 h_S_) ]

/-- They touch the TensorCore's buffers only. -/
theorem shiftPadOps_sub : (shiftPadOps : List (HloOp τ sig (Elt F))).Forall fun op => op.bufs ⊆ tcRefs τ sig :=
  ⟨unary_bufs_sub .., binary_bufs_sub ..⟩

/-- None allocates. -/
theorem shiftPadOps_fresh : (shiftPadOps : List (HloOp τ sig (Elt F))).Forall fun op => op.fresh = ∅ := forall_fresh_of_map rfl

/-- The buffers they write. -/
abbrev shiftPadOps_W : List (Ref sig .tc) := [main_while1b_call7_v0, main_while1b_v78]

/-- They write these only. -/
theorem shiftPadOps_writes : (shiftPadOps : List (HloOp τ sig (Elt F))).Forall fun op => op.writes ⊆ (shiftPadOps_W.map (Proc.devRef (τ := τ) .tc)).toFinset :=
  forall_writes_sub_of_map rfl

/-- The CTC row's step. -/
abbrev ctcOps : List (HloOp τ sig (Elt F)) :=
  [ binary main_v64_3 main_while1b_v75 main_while1b_v79 (addf : (⟨S32x253, .f32⟩ : BufTy).Contents (Elt F) → (⟨S32x253, .f32⟩ : BufTy).Contents (Elt F) → (⟨S32x253, .f32⟩ : BufTy).Contents (Elt F)),
    binary main_while1b_v78 main_while1b_v76 main_while1b_v80 (addf : (⟨S32x253, .f32⟩ : BufTy).Contents (Elt F) → (⟨S32x253, .f32⟩ : BufTy).Contents (Elt F) → (⟨S32x253, .f32⟩ : BufTy).Contents (Elt F)),
    binary main_while1b_v79 main_while1b_v80 main_while1b_v81 (maximumf : (⟨S32x253, .f32⟩ : BufTy).Contents (Elt F) → (⟨S32x253, .f32⟩ : BufTy).Contents (Elt F) → (⟨S32x253, .f32⟩ : BufTy).Contents (Elt F)),
    binary main_while1b_v79 main_while1b_v80 main_while1b_v82 (subf : (⟨S32x253, .f32⟩ : BufTy).Contents (Elt F) → (⟨S32x253, .f32⟩ : BufTy).Contents (Elt F) → (⟨S32x253, .f32⟩ : BufTy).Contents (Elt F)),
    binary main_while1b_v82 main_while1b_v82 main_while1b_v83 (cmpf .une : (⟨S32x253, .f32⟩ : BufTy).Contents (Elt F) → (⟨S32x253, .f32⟩ : BufTy).Contents (Elt F) → (⟨S32x253, .i1⟩ : BufTy).Contents (Elt F)),
    binary main_while1b_v79 main_while1b_v80 main_while1b_v84 (addf : (⟨S32x253, .f32⟩ : BufTy).Contents (Elt F) → (⟨S32x253, .f32⟩ : BufTy).Contents (Elt F) → (⟨S32x253, .f32⟩ : BufTy).Contents (Elt F)),
    unary main_while1b_v82 main_while1b_v85 (Host.absf : (⟨S32x253, .f32⟩ : BufTy).Contents (Elt F) → (⟨S32x253, .f32⟩ : BufTy).Contents (Elt F)),
    unary main_while1b_v85 main_while1b_v86 (Host.negf : (⟨S32x253, .f32⟩ : BufTy).Contents (Elt F) → (⟨S32x253, .f32⟩ : BufTy).Contents (Elt F)),
    unary main_while1b_v86 main_while1b_v87 (Host.exp : (⟨S32x253, .f32⟩ : BufTy).Contents (Elt F) → (⟨S32x253, .f32⟩ : BufTy).Contents (Elt F)),
    unary main_while1b_v87 main_while1b_v88 (Host.log1p : (⟨S32x253, .f32⟩ : BufTy).Contents (Elt F) → (⟨S32x253, .f32⟩ : BufTy).Contents (Elt F)),
    binary main_while1b_v81 main_while1b_v88 main_while1b_v89 (addf : (⟨S32x253, .f32⟩ : BufTy).Contents (Elt F) → (⟨S32x253, .f32⟩ : BufTy).Contents (Elt F) → (⟨S32x253, .f32⟩ : BufTy).Contents (Elt F)),
    ternary main_while1b_v83 main_while1b_v84 main_while1b_v89 main_while1b_v90 (select : (⟨S32x253, .i1⟩ : BufTy).Contents (Elt F) → (⟨S32x253, .f32⟩ : BufTy).Contents (Elt F) → (⟨S32x253, .f32⟩ : BufTy).Contents (Elt F) → (⟨S32x253, .f32⟩ : BufTy).Contents (Elt F)),
    nullary main_while1b_c_29 (constantI S_ 32 1#32),
    binary main_v64_2 main_while1b_c_29 main_while1b_v91 (addi : (⟨S_, .i32⟩ : BufTy).Contents (Elt F) → (⟨S_, .i32⟩ : BufTy).Contents (Elt F) → (⟨S_, .i32⟩ : BufTy).Contents (Elt F)),
    unary main_while1b_v91 main_v64_2 id,
    unary main_while1b_v90 main_v64_3 id ]

/-- They touch the TensorCore's buffers only. -/
theorem ctcOps_sub : (ctcOps : List (HloOp τ sig (Elt F))).Forall fun op => op.bufs ⊆ tcRefs τ sig :=
  ⟨binary_bufs_sub .., binary_bufs_sub .., binary_bufs_sub .., binary_bufs_sub .., binary_bufs_sub .., binary_bufs_sub .., unary_bufs_sub .., unary_bufs_sub .., unary_bufs_sub .., unary_bufs_sub .., binary_bufs_sub .., ternary_bufs_sub .., nullary_bufs_sub .., binary_bufs_sub .., unary_bufs_sub .., unary_bufs_sub ..⟩

/-- None allocates. -/
theorem ctcOps_fresh : (ctcOps : List (HloOp τ sig (Elt F))).Forall fun op => op.fresh = ∅ := forall_fresh_of_map rfl

/-- The buffers they write. -/
abbrev ctcOps_W : List (Ref sig .tc) := [main_while1b_v79, main_while1b_v80, main_while1b_v81, main_while1b_v82, main_while1b_v83, main_while1b_v84, main_while1b_v85, main_while1b_v86, main_while1b_v87, main_while1b_v88, main_while1b_v89, main_while1b_v90, main_while1b_c_29, main_while1b_v91, main_v64_2, main_v64_3]

/-- They write these only. -/
theorem ctcOps_writes : (ctcOps : List (HloOp τ sig (Elt F))).Forall fun op => op.writes ⊆ (ctcOps_W.map (Proc.devRef (τ := τ) .tc)).toFinset :=
  forall_writes_sub_of_map rfl

/-- The program's first half is these lists in order. -/
theorem part0_chain (c : Dev nD) : main_part0 (F := F) c = (Pipeline.chainK
  [ seq startOps,
    HostLoop.enter 0,
    seq normOps,
    seq clipOps ]
  (seq digitOps) : Prog (TpuEff nD τ sig (Elt F) (HostLoop.Sig (Pipeline.Sig Λ₀ (Fin 0) fun p => (pcfgs (F := F) p).Adm) 2) .tc) PUnit) := by
  rewrite [chainK_seq_cons, Pipeline.chainK_cons, chainK_seq_cons, Pipeline.chainK_cons]
  chain_rfl

/-- Its second half likewise. -/
theorem part1_chain (c : Dev nD) : main_part1 (F := F) c = (Pipeline.chain
  [ seq indexOps,
    seq stayOps,
    seq wideOps,
    seq moveOps,
    seq rowOps,
    seq padOps,
    seq enterOps,
    HostLoop.enter 1,
    seq lastOps,
    seq pickOps,
    seq meanOps ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons, chain_seq_cons, Pipeline.chain_cons, chain_seq_cons, Pipeline.chain_cons, chain_seq_cons, Pipeline.chain_cons, chain_seq_cons]
  chain_rfl

/-- The program is its lists and its two loops in order. -/
theorem main_lists (c : Dev nD) : main (F := F) c = (Pipeline.chain
  [ seq startOps,
    HostLoop.enter 0,
    seq normOps,
    seq clipOps,
    seq digitOps,
    seq indexOps,
    seq stayOps,
    seq wideOps,
    seq moveOps,
    seq rowOps,
    seq padOps,
    seq enterOps,
    HostLoop.enter 1,
    seq lastOps,
    seq pickOps,
    seq meanOps ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [part1_chain, part0_chain, Pipeline.chainK_bind_chain]
  chain_rfl

/-- The first loop's body is its lists in order. -/
theorem crf_body : main_while0_body (F := F) = (Pipeline.chain
  [ seq frameOps,
    seq crfOps ] : Prog (TpuEff nD τ sig (Elt F) (HostLoop.Sig (Pipeline.Sig Λ₀ (Fin 0) fun p => (pcfgs (F := F) p).Adm) 2) .tc) PUnit) := by
  rewrite [Pipeline.chain_cons, chain_seq_cons]
  chain_rfl

/-- The second loop's body is its lists in order. -/
theorem ctc_body : main_while1_body (F := F) = (Pipeline.chain
  [ seq stayAtOps,
    seq moveAtOps,
    seq shiftOps,
    seq shiftPadOps,
    seq ctcOps ] : Prog (TpuEff nD τ sig (Elt F) (HostLoop.Sig (Pipeline.Sig Λ₀ (Fin 0) fun p => (pcfgs (F := F) p).Adm) 2) .tc) PUnit) := by
  rewrite [Pipeline.chain_cons, Pipeline.chain_cons, chain_seq_cons, Pipeline.chain_cons, chain_seq_cons]
  chain_rfl

end Cert.ReferenceIdeal.Gen.Ref
-- ==== Proof.Ref.Vals.lean ====
/- What each list of the reference's operations computes, as functions of the arrays it reads. -/
module

public import proofs.«01_k».proof.Proof.Ref.Ops

@[expose] public section

set_option maxRecDepth 16384
set_option maxHeartbeats 2000000

noncomputable section

namespace Cert.ReferenceIdeal.Gen.Ref

open Idealize.ShloMosaic Idealize.ShloMosaic.TcCoe Idealize.ShloMosaic.StableHlo
open Idealize.SL.Sem

variable {F : FTy → Type} [FloatOps F]

/-! ## The CRF row -/

/-- The scores of time `i`, state by predecessor. -/
def frame (ms : FVec F S512x32x256x5 .f32) (i : IVec S_ 32) : FVec F S32x256x5 .f32 :=
  shapeCast S32x256x5 (Host.dynamicSlice S1x32x256x5 ms
    (fun k => (((![i, constantI S_ 32 0#32, constantI S_ 32 0#32, constantI S_ 32 0#32] : Fin 4 → IVec S_ 32)) k (Shape.Idx.first h_S_)).toInt)
    sliceFits_S512x32x256x5_S1x32x256x5) shapeCasts_S1x32x256x5_S32x256x5

/-- The row read at each state's predecessors. -/
def preds (a : FVec F S32x256 .f32) (idx : IVec S256x5 32) : FVec F S32x256x5 .f32 :=
  Host.gather gather_S32x256_S256x5x1_S32x256x5_0_1_n_n_1_2_321 a (broadcastInDim S256x5x1 ![0, 1] bcast_S256x5_S256x5x1_0_1
    (select (cmpi .slt idx (broadcastInDim S256x5 ![] bcast_S_S256x5 (constantI S_ 32 0#32)))
      (addi idx (broadcastInDim S256x5 ![] bcast_S_S256x5 (constantI S_ 32 256#32))) idx))

/-- The greatest of each five, or zero where it is not finite. -/
def top5 (x : FVec F S32x256x5 .f32) : FVec F S32x256 .f32 :=
  let g := Host.reduce FloatOps.maximumf x (constant S_ .f32 0xFF800000#32) reducesTo_S32x256x5_S32x256_d2 h_S_
  select (cmpf .olt (Host.absf g) (broadcastInDim S32x256 ![] bcast_S_S32x256 (constant S_ .f32 0x7F800000#32))) g (broadcastInDim S32x256 ![] bcast_S_S32x256 (constant S_ .f32 0x00000000#32))

/-- The logarithm of the sum of the exponentials of each five. -/
def lse5 (x : FVec F S32x256x5 .f32) : FVec F S32x256 .f32 :=
  addf (Host.log (Host.reduceAdd (Host.exp (subf x (broadcastInDim S32x256x5 ![0, 1, 2] bcast_S32x256x1_S32x256x5_0_1_2
    (broadcastInDim S32x256x1 ![0, 1] bcast_S32x256_S32x256x1_0_1 (top5 x))))) (constant S_ .f32 0x00000000#32)
    reducesTo_S32x256x5_S32x256_d2 h_S_)) (top5 x)

/-- The greatest of each row, or zero where it is not finite. -/
def top (x : FVec F S32x256 .f32) : FVec F S32 .f32 :=
  let g := Host.reduce FloatOps.maximumf x (constant S_ .f32 0xFF800000#32) reducesTo_S32x256_S32_d1 h_S_
  select (cmpf .olt (Host.absf g) (broadcastInDim S32 ![] bcast_S_S32 (constant S_ .f32 0x7F800000#32))) g (broadcastInDim S32 ![] bcast_S_S32 (constant S_ .f32 0x00000000#32))

/-- The logarithm of the sum of the exponentials of each row. -/
def lse (x : FVec F S32x256 .f32) : FVec F S32 .f32 :=
  addf (Host.log (Host.reduceAdd (Host.exp (subf x (broadcastInDim S32x256 ![0, 1] bcast_S32x1_S32x256_0_1
    (broadcastInDim S32x1 ![0] bcast_S32_S32x1_0 (top x))))) (constant S_ .f32 0x00000000#32)
    reducesTo_S32x256_S32_d1 h_S_)) (top x)

/-- The scores less each time's share of the row's partition function. -/
def normed (x : FVec F S512x32x1280 .f32) (a : FVec F S32x256 .f32) : FVec F S512x32x1280 .f32 :=
  subf x (broadcastInDim S512x32x1280 ![0, 1, 2] bcast_S1x32x1_S512x32x1280_0_1_2 (broadcastInDim S1x32x1 ![1, 2] bcast_S32x1_S1x32x1_1_2
    (Host.divf (broadcastInDim S32x1 ![0] bcast_S32_S32x1_0 (lse a))
      (broadcastInDim S32x1 ![] bcast_S_S32x1 (constant S_ .f32 0x44000000#32)))))

/-! ## The columns -/

/-- The targets counted from zero, none below it. -/
def digits (tg : IVec S32x256 32) : IVec S32x256 32 :=
  maxsi (broadcastInDim S32x256 ![] bcast_S_S32x256 (constantI S_ 32 0#32))
    (subi tg (broadcastInDim S32x256 ![] bcast_S_S32x256 (constantI S_ 32 1#32)))

/-- A number at every place. -/
def num253 (n : BitVec 32) : IVec S32x253 32 := broadcastInDim S32x253 ![] bcast_S_S32x253 (constantI S_ 32 n)

/-- The first three digits of each place's state. -/
def high (d : IVec S32x256 32) : IVec S32x253 32 :=
  addi (addi (addi (num253 0#32) (muli (extractStridedSlice S32x253 ![0, 0] d slices_S32x256_S32x253_0_0) (num253 64#32)))
    (muli (extractStridedSlice S32x253 ![0, 1] d slices_S32x256_S32x253_0_1) (num253 16#32)))
    (muli (extractStridedSlice S32x253 ![0, 2] d slices_S32x256_S32x253_0_2) (num253 4#32))

/-- The column of staying at each place. -/
def stayCol (d : IVec S32x256 32) : IVec S32x253 32 :=
  muli (addi (high d) (muli (extractStridedSlice S32x253 ![0, 3] d slices_S32x256_S32x253_0_3) (num253 1#32))) (num253 5#32)

/-- The column of moving into each place but the first. -/
def moveCol (d : IVec S32x256 32) : IVec S32x252 32 :=
  addi (addi (extractStridedSlice S32x252 ![0, 1] (stayCol d) slices_S32x253_S32x252_0_1)
    (extractStridedSlice S32x252 ![0, 0] d slices_S32x256_S32x252_0_0)) (broadcastInDim S32x252 ![] bcast_S_S32x252 (constantI S_ 32 1#32))

/-- The columns of staying, at every time. -/
def stayCols (d : IVec S32x256 32) : IVec S512x32x253 32 :=
  broadcastInDim S512x32x253 ![0, 1, 2] bcast_S1x32x253_S512x32x253_0_1_2 (broadcastInDim S1x32x253 ![1, 2] bcast_S32x253_S1x32x253_1_2 (stayCol d))

/-- The columns of moving, at every time. -/
def moveCols (d : IVec S32x252 32) : IVec S512x32x252 32 :=
  broadcastInDim S512x32x252 ![0, 1, 2] bcast_S1x32x252_S512x32x252_0_1_2 (broadcastInDim S1x32x252 ![1, 2] bcast_S32x252_S1x32x252_1_2 d)

/-- The columns wrapped, one below zero counted from the end. -/
def wrap253 (c : IVec S512x32x253 32) : IVec S512x32x253x1 32 :=
  shapeCast S512x32x253x1 (select (cmpi .slt c (broadcastInDim S512x32x253 ![] bcast_S_S512x32x253 (constantI S_ 32 0#32)))
    (addi c (broadcastInDim S512x32x253 ![] bcast_S_S512x32x253 (constantI S_ 32 1280#32))) c) shapeCasts_S512x32x253_S512x32x253x1

/-- Which columns lie inside the row. -/
def inside253 (c : IVec S512x32x253x1 32) : IVec S512x32x253 1 :=
  Host.reduce IntOp.andi
    (andi (cmpi .sge c (broadcastInDim S512x32x253x1 ![] bcast_S_S512x32x253x1 (constantI S_ 32 0#32)))
      (cmpi .sle c (broadcastInDim S512x32x253x1 ![0, 1, 2, 3] bcast_S1x1x1x1_S512x32x253x1_0_1_2_3
        (broadcastInDim S1x1x1x1 ![3] bcast_S1_S1x1x1x1_3 (constantI S1 32 1279#32)))))
    (constantI S_ 1 1#1) reducesTo_S512x32x253x1_S512x32x253_d3 h_S_

/-- The scores read at the columns of staying; outside the row, not a number. -/
def stays (x : FVec F S512x32x1280 .f32) (c : IVec S512x32x253 32) : FVec F S512x32x253 .f32 :=
  select (inside253 (wrap253 c))
    (Host.gather gather_S512x32x1280_S512x32x253x1_S512x32x253_n_2_01_01_2_3_111 x (wrap253 c))
    (broadcastInDim S512x32x253 ![] bcast_S_S512x32x253 (constant S_ .f32 0x7FC00000#32))

/-- The columns wrapped, one below zero counted from the end. -/
def wrap252 (c : IVec S512x32x252 32) : IVec S512x32x252x1 32 :=
  shapeCast S512x32x252x1 (select (cmpi .slt c (broadcastInDim S512x32x252 ![] bcast_S_S512x32x252 (constantI S_ 32 0#32)))
    (addi c (broadcastInDim S512x32x252 ![] bcast_S_S512x32x252 (constantI S_ 32 1280#32))) c) shapeCasts_S512x32x252_S512x32x252x1

/-- Which columns lie inside the row. -/
def inside252 (c : IVec S512x32x252x1 32) : IVec S512x32x252 1 :=
  Host.reduce IntOp.andi
    (andi (cmpi .sge c (broadcastInDim S512x32x252x1 ![] bcast_S_S512x32x252x1 (constantI S_ 32 0#32)))
      (cmpi .sle c (broadcastInDim S512x32x252x1 ![0, 1, 2, 3] bcast_S1x1x1x1_S512x32x252x1_0_1_2_3
        (broadcastInDim S1x1x1x1 ![3] bcast_S1_S1x1x1x1_3 (constantI S1 32 1279#32)))))
    (constantI S_ 1 1#1) reducesTo_S512x32x252x1_S512x32x252_d3 h_S_

/-- The scores read at the columns of moving; outside the row, not a number. -/
def moves (x : FVec F S512x32x1280 .f32) (c : IVec S512x32x252 32) : FVec F S512x32x252 .f32 :=
  select (inside252 (wrap252 c))
    (Host.gather gather_S512x32x1280_S512x32x252x1_S512x32x252_n_2_01_01_2_3_111 x (wrap252 c))
    (broadcastInDim S512x32x252 ![] bcast_S_S512x32x252 (constant S_ .f32 0x7FC00000#32))

/-- The scores of moving, nothing coming into the first place. -/
def padded (x : FVec F S512x32x252 .f32) : FVec F S512x32x253 .f32 :=
  pad S512x32x253 ![0, 0, 1] ![0, 0, 0] ![0, 0, 0] x (constant S_ .f32 0xFF800000#32) pads_S512x32x252_S512x32x253_000_000_100 h_S_

/-! ## The CTC row -/

/-- The scores of one time, out of those of every time. -/
def row253 (x : FVec F S512x32x253 .f32) (i : IVec S_ 32) : FVec F S32x253 .f32 :=
  shapeCast S32x253 (Host.dynamicSlice S1x32x253 x
    (fun k => (((![i, constantI S_ 32 0#32, constantI S_ 32 0#32] : Fin 3 → IVec S_ 32)) k (Shape.Idx.first h_S_)).toInt)
    sliceFits_S512x32x253_S1x32x253) shapeCasts_S1x32x253_S32x253

/-- The row one place along, nothing coming into the first place. -/
def along (a : FVec F S32x253 .f32) : FVec F S32x253 .f32 :=
  pad S32x253 ![0, 1] ![0, 0] ![0, 0] (extractStridedSlice S32x252 ![0, 0] a slices_S32x253_S32x252_0_0) (constant S_ .f32 0xFF800000#32)
    pads_S32x252_S32x253_000_100 h_S_

/-- The logarithm of the sum of two exponentials. -/
def lae (x y : FVec F S32x253 .f32) : FVec F S32x253 .f32 :=
  select (cmpf .une (subf x y) (subf x y)) (addf x y)
    (addf (maximumf x y) (Host.log1p (Host.exp (Host.negf (Host.absf (subf x y))))))

/-- The first row: one at the first place, nothing elsewhere. -/
def row0 : FVec F S32x253 .f32 :=
  Host.scatter scatter_S32x253_S1_S32_0_1_1_0 (fun _ b => b) (broadcastInDim S32x253 ![] bcast_S_S32x253 (constant S_ .f32 0xFF800000#32))
    (broadcastInDim S1 ![] bcast_S_S1 (constantI S_ 32 0#32)) (broadcastInDim S32 ![] bcast_S_S32 (constant S_ .f32 0x00000000#32))

/-! ## The loss -/

/-- The last place of each target. -/
def lastPlace (len : IVec S32 32) : IVec S32x1 32 :=
  broadcastInDim S32x1 ![0] bcast_S32_S32x1_0 (subi (subi (addi len (broadcastInDim S32 ![] bcast_S_S32 (constantI S_ 32 1#32)))
    (broadcastInDim S32 ![] bcast_S_S32 (constantI S_ 32 4#32))) (broadcastInDim S32 ![] bcast_S_S32 (constantI S_ 32 1#32)))

/-- The places wrapped, one below zero counted from the end. -/
def wrap1 (c : IVec S32x1 32) : IVec S32x1x1 32 :=
  shapeCast S32x1x1 (select (cmpi .slt c (broadcastInDim S32x1 ![] bcast_S_S32x1 (constantI S_ 32 0#32)))
    (addi c (broadcastInDim S32x1 ![] bcast_S_S32x1 (constantI S_ 32 253#32))) c) shapeCasts_S32x1_S32x1x1

/-- The row read at the last places; outside the row, not a number. -/
def picked (a : FVec F S32x253 .f32) (c : IVec S32x1 32) : FVec F S32x1 .f32 :=
  select (Host.reduce IntOp.andi
      (andi (cmpi .sge (wrap1 c) (broadcastInDim S32x1x1 ![] bcast_S_S32x1x1 (constantI S_ 32 0#32)))
        (cmpi .sle (wrap1 c) (broadcastInDim S32x1x1 ![0, 1, 2] bcast_S1x1x1_S32x1x1_0_1_2
          (broadcastInDim S1x1x1 ![2] bcast_S1_S1x1x1_2 (constantI S1 32 252#32)))))
      (constantI S_ 1 1#1) reducesTo_S32x1x1_S32x1_d2 h_S_)
    (Host.gather gather_S32x253_S32x1x1_S32x1_n_1_0_0_1_2_11 a (wrap1 c))
    (broadcastInDim S32x1 ![] bcast_S_S32x1 (constant S_ .f32 0x7FC00000#32))

/-- The mean of the losses over their lengths. -/
def mean (p : FVec F S32x1 .f32) (len : IVec S32 32) : FVec F S_ .f32 :=
  Host.divf (Host.reduceAdd (Host.negf (Host.divf (shapeCast S32 p shapeCasts_S32x1_S32) (sitofp .f32 len)))
    (constant S_ .f32 0x00000000#32) reducesTo_S32_S_d0 h_S_) (constant S_ .f32 0x42000000#32)

/-! ## The lists -/

variable (X : Valuation τ sig (Elt F))

/-- The first loop's scores, after the list that enters it: the argument by state and edge. -/
theorem start_scores : after startOps X (Proc.devRef .tc main_v2_0)
    = shapeCast S512x32x256x5 (X (Proc.devRef .tc main_arg0) : FVec F S512x32x1280 .f32) shapeCasts_S512x32x1280_S512x32x256x5 := by
  after_results
  rfl
/-- The first loop's predecessors, after the list that enters it: the literal table. -/
theorem start_preds : after startOps X (Proc.devRef .tc main_v2_1) = (fun i => lit0 (S256x5.rowMajor i) : IVec S256x5 32) := by
  after_results
  rfl
/-- The first loop's counter starts at zero. -/
theorem start_time : after startOps X (Proc.devRef .tc main_v2_2) = constantI S_ 32 0#32 := by
  after_results
  rfl
/-- The first loop's row starts at zero. -/
theorem start_row : after startOps X (Proc.devRef .tc main_v2_3)
    = broadcastInDim S32x256 ![] bcast_S_S32x256 (constant S_ .f32 0x00000000#32 : FVec F S_ .f32) := by
  after_results
  rfl

/-- The scores of one step, after their list. -/
theorem frame_out : after frameOps X (Proc.devRef .tc main_while0b_v75)
    = frame (X (Proc.devRef .tc main_v2_0)) (X (Proc.devRef .tc main_v2_2)) := by
  after_results_entrywise [cast_eq]
/-- The CRF row, after the list of one step. -/
theorem crf_row : after crfOps X (Proc.devRef .tc main_v2_3)
    = lse5 (addf (X (Proc.devRef .tc main_while0b_v75) : FVec F S32x256x5 .f32)
        (preds (X (Proc.devRef .tc main_v2_3)) (X (Proc.devRef .tc main_v2_1)))) := by
  after_results
  rfl
/-- The first loop's counter, after the list of one step. -/
theorem crf_time : after crfOps X (Proc.devRef .tc main_v2_2)
    = addi (X (Proc.devRef .tc main_v2_2) : IVec S_ 32) (constantI S_ 32 1#32) := by
  after_results
  rfl

/-- The normalised scores, after their list. -/
theorem norm_scores : after normOps X (Proc.devRef .tc main_v21)
    = normed (X (Proc.devRef .tc main_arg0)) (X (Proc.devRef .tc main_v2_3)) := by
  after_results
  rfl
/-- The targets less one, after the same list. -/
theorem norm_targets : after normOps X (Proc.devRef .tc main_v23)
    = subi (X (Proc.devRef .tc main_arg1) : IVec S32x256 32) (broadcastInDim S32x256 ![] bcast_S_S32x256 (constantI S_ 32 1#32)) := by
  after_results
/-- The lower bound of the clipping, after the same list. -/
theorem norm_zero : after normOps X (Proc.devRef .tc main_c_7) = constantI S_ 32 0#32 := by
  after_results
/-- The targets clipped from below, after their list. -/
theorem clip_out : after clipOps X (Proc.devRef .tc main_v24)
    = maxsi (broadcastInDim S32x256 ![] bcast_S_S32x256 (X (Proc.devRef .tc main_c_7) : IVec S_ 32)) (X (Proc.devRef .tc main_v23) : IVec S32x256 32) := by
  after_results
  rfl
/-- The columns of staying, after the two lists that compute them. -/
theorem index_stay : after indexOps (after digitOps X) (Proc.devRef .tc main_v50) = stayCols (X (Proc.devRef .tc main_v24)) := by
  after_results
  rfl
/-- The columns of moving, before they are spread over the steps. -/
theorem index_move : after indexOps (after digitOps X) (Proc.devRef .tc main_v48) = moveCol (X (Proc.devRef .tc main_v24)) := by
  after_results
  rfl
/-- The columns of moving, spread over the steps. -/
theorem wide_out : after wideOps X (Proc.devRef .tc main_v53) = moveCols (X (Proc.devRef .tc main_v48)) := by
  after_results
  rfl
/-- The columns of staying, wrapped, after the first eight operations of the gather. -/
theorem stay_column : after (stayOps.take 8) X (Proc.devRef .tc main_call2_v5) = wrap253 (X (Proc.devRef .tc main_v50)) := by
  simp only [stayOps, List.take_succ_cons, List.take_zero]
  after_results
  simp only [TRef.ofBuf_toBuf]
  unfold wrap253
  rfl
/-- The bits of the columns that lie inside a row, after the next ten operations. -/
theorem stay_inside : after ((stayOps.drop 8).take 10) X (Proc.devRef .tc main_call2_v12) = inside253 (X (Proc.devRef .tc main_call2_v5)) := by
  simp only [stayOps, List.drop_succ_cons, List.drop_zero, List.take_succ_cons, List.take_zero]
  after_results
  simp only [TRef.ofBuf_toBuf]
  have k : ∀ y : IVec S512x32x253x1 32, (TRef.of main_call2_v5 : TRef sig ⟨S512x32x253x1, .i32⟩).ofBuf (Val := Elt F) y = y := fun _ => rfl
  rw [k]
  have k2 : ∀ y : IVec S512x32x253 1, (TRef.of main_call2_v12 : TRef sig ⟨S512x32x253, .i1⟩).toBuf (Val := Elt F) y = y := fun _ => rfl
  rw [k2]
  unfold inside253
  with_reducible rfl
/-- The ten operations keep what they do not write. -/
theorem stay_keep (r : Ref sig .tc) (h : r ∉ (stayOps_W.drop 8).take 10) :
    after ((stayOps.drop 8).take 10) X (Proc.devRef .tc r) = X (Proc.devRef .tc r) :=
  after_of_writes_sub _ X (W := (stayOps_W.drop 8).take 10) (forall_writes_sub_of_map rfl) h
/-- The eight operations keep what they do not write. -/
theorem stay_keep' (r : Ref sig .tc) (h : r ∉ stayOps_W.take 8) :
    after (stayOps.take 8) X (Proc.devRef .tc r) = X (Proc.devRef .tc r) :=
  after_of_writes_sub _ X (W := stayOps_W.take 8) (forall_writes_sub_of_map rfl) h
/-- The scores read at the columns, after the rest. -/
theorem stay_read : after (stayOps.drop 18) X (Proc.devRef .tc main_v51) = (select (X (Proc.devRef .tc main_call2_v12))
    (Host.gather gather_S512x32x1280_S512x32x253x1_S512x32x253_n_2_01_01_2_3_111 (X (Proc.devRef .tc main_v21) : FVec F S512x32x1280 .f32)
      (X (Proc.devRef .tc main_call2_v5) : IVec S512x32x253x1 32))
    (broadcastInDim S512x32x253 ![] bcast_S_S512x32x253 (constant S_ .f32 0x7FC00000#32)) : FVec F S512x32x253 .f32) := by
  simp only [stayOps, List.drop_succ_cons, List.drop_zero, List.take_succ_cons, List.take_zero]
  after_results
  simp only [TRef.ofBuf_toBuf]
  rfl
/-- The scores of staying, after their list. -/
theorem stay_out : after stayOps X (Proc.devRef .tc main_v51)
    = stays (X (Proc.devRef .tc main_v21)) (X (Proc.devRef .tc main_v50)) := by
  have h : after stayOps X = after (stayOps.drop 18) (after ((stayOps.drop 8).take 10) (after (stayOps.take 8) X)) := by
    rw [← after_append, ← after_append]
    rfl
  rw [h, stay_read, stay_inside, stay_keep _ main_call2_v5 (by decide), stay_keep _ main_v21 (by decide),
    stay_keep' _ main_v21 (by decide), stay_column, stays]
/-- The columns of moving, wrapped, after the first eight operations of the gather. -/
theorem move_column : after (moveOps.take 8) X (Proc.devRef .tc main_call3_v5) = wrap252 (X (Proc.devRef .tc main_v53)) := by
  simp only [moveOps, List.take_succ_cons, List.take_zero]
  after_results
  simp only [TRef.ofBuf_toBuf]
  unfold wrap252
  rfl
/-- The bits of the columns that lie inside a row, after the next ten operations. -/
theorem move_inside : after ((moveOps.drop 8).take 10) X (Proc.devRef .tc main_call3_v12) = inside252 (X (Proc.devRef .tc main_call3_v5)) := by
  simp only [moveOps, List.drop_succ_cons, List.drop_zero, List.take_succ_cons, List.take_zero]
  after_results
  simp only [TRef.ofBuf_toBuf]
  have k : ∀ y : IVec S512x32x252x1 32, (TRef.of main_call3_v5 : TRef sig ⟨S512x32x252x1, .i32⟩).ofBuf (Val := Elt F) y = y := fun _ => rfl
  rw [k]
  have k2 : ∀ y : IVec S512x32x252 1, (TRef.of main_call3_v12 : TRef sig ⟨S512x32x252, .i1⟩).toBuf (Val := Elt F) y = y := fun _ => rfl
  rw [k2]
  unfold inside252
  with_reducible rfl
/-- The ten operations keep what they do not write. -/
theorem move_keep (r : Ref sig .tc) (h : r ∉ (moveOps_W.drop 8).take 10) :
    after ((moveOps.drop 8).take 10) X (Proc.devRef .tc r) = X (Proc.devRef .tc r) :=
  after_of_writes_sub _ X (W := (moveOps_W.drop 8).take 10) (forall_writes_sub_of_map rfl) h
/-- The eight operations keep what they do not write. -/
theorem move_keep' (r : Ref sig .tc) (h : r ∉ moveOps_W.take 8) :
    after (moveOps.take 8) X (Proc.devRef .tc r) = X (Proc.devRef .tc r) :=
  after_of_writes_sub _ X (W := moveOps_W.take 8) (forall_writes_sub_of_map rfl) h
/-- The scores read at the columns, after the rest. -/
theorem move_read : after (moveOps.drop 18) X (Proc.devRef .tc main_v54) = (select (X (Proc.devRef .tc main_call3_v12))
    (Host.gather gather_S512x32x1280_S512x32x252x1_S512x32x252_n_2_01_01_2_3_111 (X (Proc.devRef .tc main_v21) : FVec F S512x32x1280 .f32)
      (X (Proc.devRef .tc main_call3_v5) : IVec S512x32x252x1 32))
    (broadcastInDim S512x32x252 ![] bcast_S_S512x32x252 (constant S_ .f32 0x7FC00000#32)) : FVec F S512x32x252 .f32) := by
  simp only [moveOps, List.drop_succ_cons, List.drop_zero, List.take_succ_cons, List.take_zero]
  after_results
  simp only [TRef.ofBuf_toBuf]
  rfl
/-- The scores of moving, after their list. -/
theorem move_out : after moveOps X (Proc.devRef .tc main_v54)
    = moves (X (Proc.devRef .tc main_v21)) (X (Proc.devRef .tc main_v53)) := by
  have h : after moveOps X = after (moveOps.drop 18) (after ((moveOps.drop 8).take 10) (after (moveOps.take 8) X)) := by
    rw [← after_append, ← after_append]
    rfl
  rw [h, move_read, move_inside, move_keep _ main_call3_v5 (by decide), move_keep _ main_v21 (by decide),
    move_keep' _ main_v21 (by decide), move_column, moves]
/-- The second loop's first row, after its list. -/
theorem row_first : after rowOps X (Proc.devRef .tc main_v62) = (row0 : FVec F S32x253 .f32) := by
  after_results
  rfl
/-- The number of places of each target, after the same list. -/
theorem row_lengths : after rowOps X (Proc.devRef .tc main_v58)
    = subi (addi (X (Proc.devRef .tc main_arg2) : IVec S32 32) (broadcastInDim S32 ![] bcast_S_S32 (constantI S_ 32 1#32)))
      (broadcastInDim S32 ![] bcast_S_S32 (constantI S_ 32 4#32)) := by
  after_results
/-- The value that the padding puts in, after the same list. -/
theorem row_nothing : after rowOps X (Proc.devRef .tc main_cst_20) = (constant S_ .f32 0xFF800000#32 : FVec F S_ .f32) := by
  after_results
/-- The scores of moving padded at the first place, after their list. -/
theorem pad_out : after padOps (after rowOps X) (Proc.devRef .tc main_v63) = padded (X (Proc.devRef .tc main_v54)) := by
  after_results
  rfl
/-- The second loop enters with the scores of staying. -/
theorem enter_stay : after enterOps X (Proc.devRef .tc main_v64_0) = X (Proc.devRef .tc main_v51) := by
  after_results
  rfl
/-- The second loop enters with the padded scores of moving. -/
theorem enter_move : after enterOps X (Proc.devRef .tc main_v64_1) = X (Proc.devRef .tc main_v63) := by
  after_results
  rfl
/-- The second loop's counter starts at zero. -/
theorem enter_time : after enterOps X (Proc.devRef .tc main_v64_2) = constantI S_ 32 0#32 := by
  after_results
  rfl
/-- The second loop enters with its first row. -/
theorem enter_row : after enterOps X (Proc.devRef .tc main_v64_3) = X (Proc.devRef .tc main_v62) := by
  after_results
  rfl

/-- The scores of staying of one step, after their list. -/
theorem stayAt_out : after stayAtOps X (Proc.devRef .tc main_while1b_v75)
    = row253 (X (Proc.devRef .tc main_v64_0)) (X (Proc.devRef .tc main_v64_2)) := by
  after_results_entrywise [cast_eq]
/-- The scores of moving of one step, after their list. -/
theorem moveAt_out : after moveAtOps X (Proc.devRef .tc main_while1b_v76)
    = row253 (X (Proc.devRef .tc main_v64_1)) (X (Proc.devRef .tc main_v64_2)) := by
  after_results_entrywise [cast_eq]
/-- The row one place along, after its list. -/
theorem shift_out : after shiftPadOps (after shiftOps X) (Proc.devRef .tc main_while1b_v78) = along (X (Proc.devRef .tc main_v64_3)) := by
  after_results
  rfl
/-- The CTC row, after the list of one step. -/
theorem ctc_row : after ctcOps X (Proc.devRef .tc main_v64_3)
    = lae (addf (X (Proc.devRef .tc main_v64_3) : FVec F S32x253 .f32) (X (Proc.devRef .tc main_while1b_v75)))
      (addf (X (Proc.devRef .tc main_while1b_v78) : FVec F S32x253 .f32) (X (Proc.devRef .tc main_while1b_v76))) := by
  after_results
  rfl
/-- The second loop's counter, after the list of one step. -/
theorem ctc_time : after ctcOps X (Proc.devRef .tc main_v64_2)
    = addi (X (Proc.devRef .tc main_v64_2) : IVec S_ 32) (constantI S_ 32 1#32) := by
  after_results
  rfl

/-- The last places, after their list. -/
theorem last_out : after lastOps X (Proc.devRef .tc main_v67)
    = broadcastInDim S32x1 ![0] bcast_S32_S32x1_0 (subi (X (Proc.devRef .tc main_v58) : IVec S32 32)
      (broadcastInDim S32 ![] bcast_S_S32 (constantI S_ 32 1#32))) := by
  after_results
/-- The row at the last places, after its list. -/
theorem pick_out : after pickOps X (Proc.devRef .tc main_v68)
    = picked (X (Proc.devRef .tc main_v64_3)) (X (Proc.devRef .tc main_v67)) := by
  after_results
  rfl
/-- The mean of the losses, after the last list. -/
theorem mean_out : after meanOps X (Proc.devRef .tc main_v74)
    = mean (X (Proc.devRef .tc main_v68)) (X (Proc.devRef .tc main_arg2)) := by
  after_results
  rfl

end Cert.ReferenceIdeal.Gen.Ref
-- ==== Proof.Ref.Two.lean ====
/- The run of a program of host operations and two counted loops: what every buffer holds at the end. -/
module

public import Idealize.ShloMosaic.Lib.StableHlo.RunLoop

@[expose] public section

noncomputable section

namespace Cert.TwoLoops

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs unscopedBufs_held sub_ucRefs)
open TcCoe

variable {nD : Nat} {τ : Topo} {sig : RefSig} {F : FTy → Type} {Λ₀ : Idealize.SL.Sem.Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- No kernel region, so nothing is admitted to one. -/
abbrev noAdm : (p : Fin 0) → (pcs p).Adm := fun p => p.elim0
/-- No ticket is handed out. -/
abbrev noTickets : Fin 0 → Ticket (Ix := Unit) (Name := ℕ) (U := Option PUnit) (Lvl := ℕ) (nD := nD) (τ := τ) pcs (noAdm pcs) :=
  fun j => j.elim0
/-- No counter carries an obligation. -/
abbrev noIx : GSem nD τ sig → Finset Unit := fun _ => ∅
/-- One level for every counter. -/
abbrev level : GSem nD τ sig → Unit → ℕ := fun _ _ => 0

/-- The empty family of staging cells is injective. -/
theorem cells_injective : Function.Injective (Pipeline.cellOf (nD := nD) (τ := τ) (Pipeline.pin pcs (noAdm pcs))) :=
  fun k => k.1.elim0

/-- Beside the buffers a core carries only that it owes nothing. -/
abbrev owed (c : Dev nD) : sProp 𝕄 := iprop(∃ W, owes (c : Thread nD τ) (0 : CellTallies nD τ sig Unit) W)

variable {pcs defs₀ loops}

/-- A condition's specification over the buffers alone holds beside what the core owes. -/
theorem beside {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (h : CondSpec pcs defs₀ loops cond condOps bodyI W₀ n) :
    LoopCond pcs defs₀ Variants.none loops owed cond condOps bodyI W₀ n := fun k hk c bd => by
  refine BIBase.Entails.trans ?_ (((sep_mono_left (Q := owed c) (h k hk c bd)).trans (wp_frame_r _ _ _)).trans (wp_mono _ _ _ fun v => ?_))
  · iintro ⟨Hb, Hh, HO⟩
    isplitl [Hb Hh]
    · isplitl [Hb] <;> iassumption
    · iexact HO
  · iintro ⟨⟨%hv, Hb, Hh⟩, HO⟩
    isplitl []
    · ipureintro; exact hv
    isplitl [Hb]
    · iexact Hb
    isplitl [Hh] <;> iassumption

/-- A counted loop: its condition, its body and the lists they run. -/
structure Loop (pcs : Fin 0 → PCfg sig Λ₀ (Elt F))
    (loops : Fin nL → Prog (TpuEff nD τ sig (Elt F) (HostLoop.Sig (Pipeline.Sig Λ₀ (Fin 0) fun p => (pcs p).Adm) nL) .tc) PUnit) where
  /-- Which loop of the program. -/
  l : Fin nL
  /-- Its condition. -/
  cond : Prog (TpuEff nD τ sig (Elt F) (HostLoop.Sig (Pipeline.Sig Λ₀ (Fin 0) fun p => (pcs p).Adm) nL) .tc) (Elt F .i1)
  /-- Its body. -/
  body : Prog (TpuEff nD τ sig (Elt F) (HostLoop.Sig (Pipeline.Sig Λ₀ (Fin 0) fun p => (pcs p).Adm) nL) .tc) PUnit
  /-- The program's loop is these two. -/
  step : loops l = HostLoop.step l cond body
  /-- The condition's operations. -/
  condOps : List (HloOp τ sig (Elt F))
  /-- The body's lists. -/
  bodyI : List (List (HloOp τ sig (Elt F)))
  /-- They are plain. -/
  plain : Plain bodyI
  /-- The body is its lists in order. -/
  chain : body = Pipeline.chain (bodyI.map fun ops => (seq ops : Prog _ PUnit))
  /-- How many times it goes round. -/
  n : ℕ

/-- What the buffers hold after a loop, entered with them at `V`. -/
def Loop.out (o : Loop (nD := nD) (τ := τ) pcs loops) (V : Dev nD → Valuation τ sig (Elt F)) (c : Dev nD) : Valuation τ sig (Elt F) :=
  after o.condOps (atTrip o.condOps o.bodyI V o.n c)

variable (o₀ o₁ : Loop (nD := nD) (τ := τ) pcs loops) (preI midI postI : List (List (HloOp τ sig (Elt F))))
  (m : (ℓ : Loc nD τ sig) → Buf (Elt F) ℓ)

/-- What the buffers hold at the first loop's entry. -/
abbrev at₀ (c : Dev nD) : Valuation τ sig (Elt F) := afterL preI (launchContents m c)
/-- What the buffers hold at the second loop's entry. -/
abbrev at₁ (c : Dev nD) : Valuation τ sig (Elt F) := afterL midI (o₀.out (at₀ preI m) c)
/-- What the buffers hold at the end. -/
abbrev atEnd (c : Dev nD) : Valuation τ sig (Elt F) := afterL postI (o₁.out (at₁ o₀ preI midI m) c)

/-- Every weakly fair run of lists, a counted loop, lists, a counted loop and lists ends with every buffer at `atEnd`. -/
theorem run [∀ e, Nonempty (Elt F e)]
    (main : Dev nD → Prog (TpuEff nD τ sig (Elt F) (HostLoop.Sig (Pipeline.Sig Λ₀ (Fin 0) fun p => (pcs p).Adm) nL) .tc) PUnit)
    (hpre : Plain preI) (hmid : Plain midI) (hpost : Plain postI)
    (hmain : ∀ c, main c = Pipeline.chain ((preI.map fun ops => (seq ops : Prog _ PUnit)) ++ HostLoop.enter o₀.l ::
      ((midI.map fun ops => (seq ops : Prog _ PUnit)) ++ HostLoop.enter o₁.l :: postI.map fun ops => (seq ops : Prog _ PUnit))))
    (ρ : Dev nD → PrngReg)
    (h₀ : CondSpec pcs defs₀ loops o₀.cond o₀.condOps o₀.bodyI (at₀ preI m) o₀.n)
    (h₁ : CondSpec pcs defs₀ loops o₁.cond o₁.condOps o₁.bodyI (at₁ o₀ preI midI m) o₁.n) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = atEnd o₀ o₁ preI midI postI m c (Proc.devRef .tc b)) :=
  let segs : List (CSeg pcs (noAdm pcs) defs₀ Variants.none noIx level loops (noTickets pcs)) :=
    segsOf _ _ _ _ _ _ _ _ owed preI hpre (launchContents m)
      ++ loopSeg _ _ _ _ _ _ _ _ o₀.l o₀.cond o₀.body o₀.step o₀.condOps o₀.bodyI o₀.plain o₀.chain o₀.n (at₀ preI m) owed (beside h₀)
      :: (segsOf _ _ _ _ _ _ _ _ owed midI hmid (o₀.out (at₀ preI m))
        ++ loopSeg _ _ _ _ _ _ _ _ o₁.l o₁.cond o₁.body o₁.step o₁.condOps o₁.bodyI o₁.plain o₁.chain o₁.n (at₁ o₀ preI midI m) owed (beside h₁)
        :: segsOf _ _ _ _ _ _ _ _ owed postI hpost (o₁.out (at₁ o₀ preI midI m)))
  have hprog : segs.map CSeg.prog = (preI.map fun ops => (seq ops : Prog _ PUnit)) ++ HostLoop.enter o₀.l ::
      ((midI.map fun ops => (seq ops : Prog _ PUnit)) ++ HostLoop.enter o₁.l :: postI.map fun ops => (seq ops : Prog _ PUnit)) := by
    show List.map CSeg.prog (_ ++ _ :: (_ ++ _ :: _)) = _
    rw [List.map_append, List.map_cons, List.map_append, List.map_cons, segsOf_prog, segsOf_prog, segsOf_prog]
    rfl
  have hchains : CSeg.Chains (fun c => iprop(held (c : Thread nD τ) (ucRefs τ sig) (launchContents m c) ∗ owed c)) segs
      (fun c => iprop(iprop(held (c : Thread nD τ) (ucRefs τ sig) (atEnd o₀ o₁ preI midI postI m c)) ∗ ∃ W, owes (c : Thread nD τ) (0 : CellTallies nD τ sig Unit) W)) :=
    CSeg.Chains.append (segsOf_chains _ _ _ _ _ _ _ _ owed preI hpre _) ⟨fun _ => .rfl,
      CSeg.Chains.append (segsOf_chains _ _ _ _ _ _ _ _ owed midI hmid _) ⟨fun _ => .rfl, segsOf_chains _ _ _ _ _ _ _ _ owed postI hpost _⟩⟩
  Pipeline.θ_run_regions_loop_kit (Ix := Unit) (Name := ℕ) (U := Option PUnit) (Lvl := ℕ) (J := Fin 0) (P := Fin 0) (Val := Elt F)
    pcs (noAdm pcs) (cells_injective pcs) defs₀ Variants.none noIx level loops (noTickets pcs) m ρ main segs
    (fun c Q => by
      rw [hmain c]
      show wp _ _ _ (Pipeline.chain (segs.map CSeg.prog)) Q ⊢ _
      rw [hprog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ owed c))
    (Tₙ := fun c => iprop(held (c : Thread nD τ) (ucRefs τ sig) (atEnd o₀ o₁ preI midI postI m c)))
    (hch := hchains)
    (hinit := by
      refine Pipeline.initEach noIx level fun c => ?_
      rw [show unscopedBufs c (fun b => m ((c : Thread nD τ).loc b)) = held (c : Thread nD τ) (ucRefs τ sig) (launchContents m c) from unscopedBufs_held c (launchContents m c)]
      iintro ⟨⟨Hh, -, HO, -, -, -⟩, -⟩
      imodintro
      isplitl [Hh]
      · iexact Hh
      iexists ∅; iexact HO)
    (QY := fun c s => ∀ b ∈ ucRefs τ sig, s.mem ((c : Dev nD), b) = atEnd o₀ o₁ preI midI postI m c b)
    (hfin := fun c s' => by
      unfold held
      iintro ⟨Hh, HSI⟩
      ihave Hr := (pointsTo_read_all (ucRefs τ sig) (fun b => ((c : Dev nD), b)) (fun b => atEnd o₀ o₁ preI midI postI m c b) s') $$ [Hh HSI]
      · isplitl [Hh] <;> iassumption
      icases Hr with ⟨%h, HSI⟩
      imodintro
      isplitr
      · ipureintro; exact h
      iexact HSI)
    (hQ := fun _ h c b hb => h c _ (devRef_mem_ucRefs b hb))

end Cert.TwoLoops
-- ==== Proof.Ref.Run.lean ====
/- The reference's run: its two loops, what each carries after every trip, and what the result holds at the end. -/
module

public import proofs.«01_k».proof.Proof.Ref.Vals
public import proofs.«01_k».proof.Proof.Ref.Two
public import Idealize.ShloMosaic.Lib.Quiescent
public import Idealize.ShloMosaic.Lib.Scf.ExitTest
public import Idealize.ShloMosaic.Lib.Scf.Counter

@[expose] public section

set_option maxRecDepth 16384
set_option maxHeartbeats 2000000

noncomputable section

namespace Cert.ReferenceIdeal.Gen.Ref

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)
open Cert.TwoLoops (Loop at₀ at₁ atEnd)

variable {F : FTy → Type} [FloatOps F]

/-- The first loop's condition: its counter below 512. -/
abbrev crfCond : List (HloOp τ sig (Elt F)) :=
  [ nullary main_while0c_c_28 (constantI S_ 32 512#32),
    binary main_v2_2 main_while0c_c_28 main_while0c_v75 (cmpi .slt) ]
/-- The second loop's condition: its counter below 512. -/
abbrev ctcCond : List (HloOp τ sig (Elt F)) :=
  [ nullary main_while1c_c_28 (constantI S_ 32 512#32),
    binary main_v64_2 main_while1c_c_28 main_while1c_v75 (cmpi .slt) ]

/-- The first loop's condition keeps what it does not write. -/
theorem crfCond_keep (X : Valuation τ sig (Elt F)) (r : Ref sig .tc) (h : r ∉ [main_while0c_c_28, main_while0c_v75]) :
    after crfCond X (Proc.devRef .tc r) = X (Proc.devRef .tc r) :=
  after_of_writes_sub crfCond X (forall_writes_sub_of_map rfl) h
/-- The second loop's condition keeps what it does not write. -/
theorem ctcCond_keep (X : Valuation τ sig (Elt F)) (r : Ref sig .tc) (h : r ∉ [main_while1c_c_28, main_while1c_v75]) :
    after ctcCond X (Proc.devRef .tc r) = X (Proc.devRef .tc r) :=
  after_of_writes_sub ctcCond X (forall_writes_sub_of_map rfl) h

/-- The lists before the first loop. -/
abbrev preI : List (List (HloOp τ sig (Elt F))) := [startOps]
/-- The lists between the loops. -/
abbrev midI : List (List (HloOp τ sig (Elt F))) := [normOps, clipOps, digitOps, indexOps, stayOps, wideOps, moveOps, rowOps, padOps, enterOps]
/-- The lists after the second loop. -/
abbrev postI : List (List (HloOp τ sig (Elt F))) := [lastOps, pickOps, meanOps]

/-- A list before a plain list of lists. -/
theorem plain_cons {ops : List (HloOp τ sig (Elt F))} {rest : List (List (HloOp τ sig (Elt F)))}
    (hs : ops.Forall fun op => op.bufs ⊆ tcRefs τ sig) (hf : ops.Forall fun op => op.fresh = ∅) (h : Plain rest) : Plain (ops :: rest) :=
  .cons hs h (hf := List.forall_iff_forall_mem.mp hf)

/-- The lists before the first loop are plain. -/
theorem pre_plain : Plain (preI (F := F)) := plain_cons startOps_sub startOps_fresh .nil
/-- The lists between the loops are plain. -/
theorem mid_plain : Plain (midI (F := F)) :=
  plain_cons normOps_sub normOps_fresh <| plain_cons clipOps_sub clipOps_fresh <| plain_cons digitOps_sub digitOps_fresh <|
  plain_cons indexOps_sub indexOps_fresh <| plain_cons stayOps_sub stayOps_fresh <| plain_cons wideOps_sub wideOps_fresh <|
  plain_cons moveOps_sub moveOps_fresh <| plain_cons rowOps_sub rowOps_fresh <| plain_cons padOps_sub padOps_fresh <|
  plain_cons enterOps_sub enterOps_fresh .nil
/-- The lists after the second loop are plain. -/
theorem post_plain : Plain (postI (F := F)) :=
  plain_cons lastOps_sub lastOps_fresh <| plain_cons pickOps_sub pickOps_fresh <| plain_cons meanOps_sub meanOps_fresh .nil

/-- The first loop. -/
def crfLoop : Loop (nD := nD) (τ := τ) (pcfgs (F := F)) loops where
  l := 0
  cond := main_while0_cond
  body := main_while0_body
  step := rfl
  condOps := crfCond
  bodyI := [frameOps, crfOps]
  plain := plain_cons frameOps_sub frameOps_fresh <| plain_cons crfOps_sub crfOps_fresh .nil
  chain := by rw [crf_body]; rfl
  n := 512

/-- The second loop. -/
def ctcLoop : Loop (nD := nD) (τ := τ) (pcfgs (F := F)) loops where
  l := 1
  cond := main_while1_cond
  body := main_while1_body
  step := rfl
  condOps := ctcCond
  bodyI := [stayAtOps, moveAtOps, shiftOps, shiftPadOps, ctcOps]
  plain := plain_cons stayAtOps_sub stayAtOps_fresh <| plain_cons moveAtOps_sub moveAtOps_fresh <| plain_cons shiftOps_sub shiftOps_fresh <|
    plain_cons shiftPadOps_sub shiftPadOps_fresh <| plain_cons ctcOps_sub ctcOps_fresh .nil
  chain := by rw [ctc_body]; rfl
  n := 512

/-! ## What the loops carry -/

/-- The counter before trip `k`. -/
abbrev time (k : ℕ) : IVec S_ 32 := fun _ => Scf.iv 0#32 1#32 k

/-- The CRF row after `k` steps. -/
def crfAt (ms : FVec F S512x32x256x5 .f32) (idx : IVec S256x5 32) (a : FVec F S32x256 .f32) : ℕ → FVec F S32x256 .f32
  | 0 => a
  | k + 1 => lse5 (addf (frame ms (time k)) (preds (crfAt ms idx a k) idx))

/-- The CTC row after `k` steps. -/
def ctcAt (st mv : FVec F S512x32x253 .f32) (a : FVec F S32x253 .f32) : ℕ → FVec F S32x253 .f32
  | 0 => a
  | k + 1 => lae (addf (ctcAt st mv a k) (row253 st (time k))) (addf (along (ctcAt st mv a k)) (row253 mv (time k)))

variable (V : Dev nD → Valuation τ sig (Elt F)) (c : Dev nD)

/-- The first loop's buffers before trip `k`, entered at `V`. -/
theorem crf_trips (h : V c (Proc.devRef .tc main_v2_2) = constantI S_ 32 0#32) (k : ℕ) :
    atTrip crfCond [frameOps, crfOps] V k c (Proc.devRef .tc main_v2_0) = V c (Proc.devRef .tc main_v2_0)
    ∧ atTrip crfCond [frameOps, crfOps] V k c (Proc.devRef .tc main_v2_1) = V c (Proc.devRef .tc main_v2_1)
    ∧ atTrip crfCond [frameOps, crfOps] V k c (Proc.devRef .tc main_v2_2) = time k
    ∧ atTrip crfCond [frameOps, crfOps] V k c (Proc.devRef .tc main_v2_3)
      = crfAt (V c (Proc.devRef .tc main_v2_0)) (V c (Proc.devRef .tc main_v2_1)) (V c (Proc.devRef .tc main_v2_3)) k := by
  induction k with
  | zero => exact ⟨rfl, rfl, by rw [atTrip_zero, h]; funext _; exact (Scf.iv_zero ..).symm, rfl⟩
  | succ k ih =>
    obtain ⟨h0, h1, h2, h3⟩ := ih
    rw [atTrip_succ, afterL_cons, afterL_cons, afterL_nil]
    refine ⟨?_, ?_, ?_, ?_⟩
    · rw [after_of_writes_sub crfOps _ crfOps_writes (by decide +kernel), after_of_writes_sub frameOps _ frameOps_writes (by decide +kernel),
        crfCond_keep _ _ (by decide), h0]
    · rw [after_of_writes_sub crfOps _ crfOps_writes (by decide +kernel), after_of_writes_sub frameOps _ frameOps_writes (by decide +kernel),
        crfCond_keep _ _ (by decide), h1]
    · rw [crf_time, after_of_writes_sub frameOps _ frameOps_writes (by decide +kernel), crfCond_keep _ _ (by decide), h2]
      funext _
      exact (Scf.iv_succ ..).symm
    · rw [crf_row, frame_out, after_of_writes_sub frameOps (r := main_v2_3) _ frameOps_writes (by decide +kernel),
        after_of_writes_sub frameOps (r := main_v2_1) _ frameOps_writes (by decide +kernel),
        crfCond_keep _ main_v2_0 (by decide), crfCond_keep _ main_v2_1 (by decide), crfCond_keep _ main_v2_2 (by decide),
        crfCond_keep _ main_v2_3 (by decide), h0, h1, h2, h3]
      rfl

/-- A buffer that the second loop's body leaves alone. -/
theorem ctc_body_keep (X : Valuation τ sig (Elt F)) (r : Ref sig .tc)
    (h : r ∉ stayAtOps_W ++ moveAtOps_W ++ shiftOps_W ++ shiftPadOps_W ++ ctcOps_W) :
    after ctcOps (after shiftPadOps (after shiftOps (after moveAtOps (after stayAtOps X)))) (Proc.devRef .tc r) = X (Proc.devRef .tc r) := by
  simp only [List.mem_append, not_or] at h
  obtain ⟨⟨⟨⟨h1, h2⟩, h3⟩, h4⟩, h5⟩ := h
  rw [after_of_writes_sub ctcOps _ ctcOps_writes h5, after_of_writes_sub shiftPadOps _ shiftPadOps_writes h4,
    after_of_writes_sub shiftOps _ shiftOps_writes h3, after_of_writes_sub moveAtOps _ moveAtOps_writes h2,
    after_of_writes_sub stayAtOps _ stayAtOps_writes h1]

/-- The second loop's step, from the buffers it reads. -/
theorem ctc_step (X : Valuation τ sig (Elt F)) :
    after ctcOps (after shiftPadOps (after shiftOps (after moveAtOps (after stayAtOps X)))) (Proc.devRef .tc main_v64_3)
      = lae (addf (X (Proc.devRef .tc main_v64_3)) (row253 (X (Proc.devRef .tc main_v64_0)) (X (Proc.devRef .tc main_v64_2))))
        (addf (along (X (Proc.devRef .tc main_v64_3))) (row253 (X (Proc.devRef .tc main_v64_1)) (X (Proc.devRef .tc main_v64_2)))) := by
  have k1 : ∀ (Y : Valuation τ sig (Elt F)) (r : Ref sig .tc), r ∉ shiftPadOps_W → after shiftPadOps Y (Proc.devRef .tc r) = Y (Proc.devRef .tc r) :=
    fun Y r h => after_of_writes_sub shiftPadOps _ shiftPadOps_writes h
  have k2 : ∀ (Y : Valuation τ sig (Elt F)) (r : Ref sig .tc), r ∉ shiftOps_W → after shiftOps Y (Proc.devRef .tc r) = Y (Proc.devRef .tc r) :=
    fun Y r h => after_of_writes_sub shiftOps _ shiftOps_writes h
  have k3 : ∀ (Y : Valuation τ sig (Elt F)) (r : Ref sig .tc), r ∉ moveAtOps_W → after moveAtOps Y (Proc.devRef .tc r) = Y (Proc.devRef .tc r) :=
    fun Y r h => after_of_writes_sub moveAtOps _ moveAtOps_writes h
  have k4 : ∀ (Y : Valuation τ sig (Elt F)) (r : Ref sig .tc), r ∉ stayAtOps_W → after stayAtOps Y (Proc.devRef .tc r) = Y (Proc.devRef .tc r) :=
    fun Y r h => after_of_writes_sub stayAtOps _ stayAtOps_writes h
  rw [ctc_row, shift_out, k1 _ main_v64_3 (by decide), k2 _ main_v64_3 (by decide), k3 _ main_v64_3 (by decide), k4 _ main_v64_3 (by decide),
    k1 _ main_while1b_v75 (by decide), k2 _ main_while1b_v75 (by decide), k3 _ main_while1b_v75 (by decide), stayAt_out,
    k1 _ main_while1b_v76 (by decide), k2 _ main_while1b_v76 (by decide), moveAt_out, k4 _ main_v64_1 (by decide), k4 _ main_v64_2 (by decide)]

/-- The second loop's buffers before trip `k`, entered at `V`. -/
theorem ctc_trips (h : V c (Proc.devRef .tc main_v64_2) = constantI S_ 32 0#32) (k : ℕ) :
    atTrip ctcCond [stayAtOps, moveAtOps, shiftOps, shiftPadOps, ctcOps] V k c (Proc.devRef .tc main_v64_0) = V c (Proc.devRef .tc main_v64_0)
    ∧ atTrip ctcCond [stayAtOps, moveAtOps, shiftOps, shiftPadOps, ctcOps] V k c (Proc.devRef .tc main_v64_1) = V c (Proc.devRef .tc main_v64_1)
    ∧ atTrip ctcCond [stayAtOps, moveAtOps, shiftOps, shiftPadOps, ctcOps] V k c (Proc.devRef .tc main_v64_2) = time k
    ∧ atTrip ctcCond [stayAtOps, moveAtOps, shiftOps, shiftPadOps, ctcOps] V k c (Proc.devRef .tc main_v64_3)
      = ctcAt (V c (Proc.devRef .tc main_v64_0)) (V c (Proc.devRef .tc main_v64_1)) (V c (Proc.devRef .tc main_v64_3)) k := by
  induction k with
  | zero => exact ⟨rfl, rfl, by rw [atTrip_zero, h]; funext _; exact (Scf.iv_zero ..).symm, rfl⟩
  | succ k ih =>
    obtain ⟨h0, h1, h2, h3⟩ := ih
    simp only [atTrip_succ, afterL_cons, afterL_nil]
    refine ⟨?_, ?_, ?_, ?_⟩
    · rw [ctc_body_keep _ _ (by decide +kernel), ctcCond_keep _ _ (by decide), h0]
    · rw [ctc_body_keep _ _ (by decide +kernel), ctcCond_keep _ _ (by decide), h1]
    · rw [ctc_time, after_of_writes_sub shiftPadOps _ shiftPadOps_writes (by decide +kernel), after_of_writes_sub shiftOps _ shiftOps_writes (by decide +kernel),
        after_of_writes_sub moveAtOps _ moveAtOps_writes (by decide +kernel), after_of_writes_sub stayAtOps _ stayAtOps_writes (by decide +kernel),
        ctcCond_keep _ _ (by decide), h2]
      funext _
      exact (Scf.iv_succ ..).symm
    · rw [ctc_step, ctcCond_keep _ main_v64_0 (by decide), ctcCond_keep _ main_v64_1 (by decide), ctcCond_keep _ main_v64_2 (by decide),
        ctcCond_keep _ main_v64_3 (by decide), h0, h1, h2, h3]
      rfl

/-- A buffer that the first loop leaves alone. -/
theorem crf_keep (r : Ref sig .tc) (h : r ∉ [main_while0c_c_28, main_while0c_v75] ++ frameOps_W ++ crfOps_W) :
    crfLoop.out V c (Proc.devRef .tc r) = V c (Proc.devRef .tc r) := by
  simp only [List.mem_append, not_or] at h
  obtain ⟨⟨h1, h2⟩, h3⟩ := h
  show after crfCond (atTrip crfCond [frameOps, crfOps] V 512 c) _ = _
  rw [crfCond_keep _ _ h1]
  generalize (512 : ℕ) = n
  induction n with
  | zero => rfl
  | succ n ih =>
    rw [atTrip_succ, afterL_cons, afterL_cons, afterL_nil, after_of_writes_sub crfOps _ crfOps_writes h3,
      after_of_writes_sub frameOps _ frameOps_writes h2, crfCond_keep _ _ h1, ih]

/-- A buffer that the second loop leaves alone. -/
theorem ctc_keep (r : Ref sig .tc) (h : r ∉ [main_while1c_c_28, main_while1c_v75] ++ (stayAtOps_W ++ moveAtOps_W ++ shiftOps_W ++ shiftPadOps_W ++ ctcOps_W)) :
    ctcLoop.out V c (Proc.devRef .tc r) = V c (Proc.devRef .tc r) := by
  rw [List.mem_append, not_or] at h
  obtain ⟨h1, h2⟩ := h
  show after ctcCond (atTrip ctcCond [stayAtOps, moveAtOps, shiftOps, shiftPadOps, ctcOps] V 512 c) _ = _
  rw [ctcCond_keep _ _ h1]
  generalize (512 : ℕ) = n
  induction n with
  | zero => rfl
  | succ n ih =>
    simp only [atTrip_succ, afterL_cons, afterL_nil]
    rw [ctc_body_keep _ _ h2, ctcCond_keep _ _ h1, ih]

/-! ## The conditions -/

set_option backward.isDefEq.respectTransparency.types false in
/-- The first loop's condition holds before trip `k` exactly when `k < 512`. -/
theorem crf_cond (h : ∀ c, V c (Proc.devRef .tc main_v2_2) = constantI S_ 32 0#32) :
    CondSpec (pcfgs (F := F)) defs₀ loops (main_while0_cond (F := F)) crfCond [frameOps, crfOps] V 512 := by
  intro k hk c bd
  have hctr := (crf_trips V c (h c) k).2.2.1
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip crfCond [frameOps, crfOps] V k c) main_v2_2 HostLoop.idx0)
        (HloOp.result _ (atTrip crfCond [frameOps, crfOps] V k c) main_while0c_c_28 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

set_option backward.isDefEq.respectTransparency.types false in
/-- The second loop's condition holds before trip `k` exactly when `k < 512`. -/
theorem ctc_cond (h : ∀ c, V c (Proc.devRef .tc main_v64_2) = constantI S_ 32 0#32) :
    CondSpec (pcfgs (F := F)) defs₀ loops (main_while1_cond (F := F)) ctcCond [stayAtOps, moveAtOps, shiftOps, shiftPadOps, ctcOps] V 512 := by
  intro k hk c bd
  have hctr := (ctc_trips V c (h c) k).2.2.1
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip ctcCond [stayAtOps, moveAtOps, shiftOps, shiftPadOps, ctcOps] V k c) main_v64_2 HostLoop.idx0)
        (HloOp.result _ (atTrip ctcCond [stayAtOps, moveAtOps, shiftOps, shiftPadOps, ctcOps] V k c) main_while1c_c_28 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

/-- The lists between the loops, one after another. -/
theorem mid_lists (X : Valuation τ sig (Elt F)) : afterL midI X
    = after enterOps (after padOps (after rowOps (after moveOps (after wideOps (after stayOps (after indexOps (after digitOps
      (after clipOps (after normOps X))))))))) := rfl

/-- What the second loop is entered with. -/
theorem at_second (m : (ℓ : Loc nD τ sig) → Buf (Elt F) ℓ) (c : Dev nD) :
    at₁ crfLoop preI midI m c = afterL midI (crfLoop.out (at₀ preI m) c) := rfl

/-- What the first loop is entered with. -/
theorem at_first (m : (ℓ : Loc nD τ sig) → Buf (Elt F) ℓ) (c : Dev nD) :
    at₀ preI m c = after startOps (launchContents m c) := rfl

/-- What the run leaves. -/
theorem at_end (m : (ℓ : Loc nD τ sig) → Buf (Elt F) ℓ) (c : Dev nD) :
    atEnd crfLoop ctcLoop preI midI postI m c = after meanOps (after pickOps (after lastOps (ctcLoop.out (at₁ crfLoop preI midI m) c))) := rfl

/-! ## The run -/

variable (m : (ℓ : Loc nD τ sig) → Buf (Elt F) ℓ) (ρ : Dev nD → PrngReg)

/-- Every weakly fair run ends with every buffer at the lists' and the loops' fold. -/
theorem run_all : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = atEnd crfLoop ctcLoop preI midI postI m c (Proc.devRef .tc b)) :=
  Cert.TwoLoops.run crfLoop ctcLoop preI midI postI m main pre_plain mid_plain post_plain
    (fun c => by rw [main_lists]; rfl) ρ
    (crf_cond _ fun c => start_time _)
    (ctc_cond _ fun c => by
      rw [at_second, mid_lists, enter_time])

/-! ## What the loops are entered with, and what they leave -/

/-- A buffer that no list between the loops writes. -/
theorem mid_keep (X : Valuation τ sig (Elt F)) (r : Ref sig .tc)
    (h : ∀ W ∈ [normOps_W, clipOps_W, digitOps_W, indexOps_W, stayOps_W, wideOps_W, moveOps_W, rowOps_W, padOps_W, enterOps_W], r ∉ W) :
    afterL midI X (Proc.devRef .tc r) = X (Proc.devRef .tc r) := by
  show after enterOps (after padOps (after rowOps (after moveOps (after wideOps (after stayOps (after indexOps (after digitOps
    (after clipOps (after normOps X))))))))) _ = _
  rw [after_of_writes_sub enterOps _ enterOps_writes (h _ (by simp only [List.mem_cons, true_or, or_true])),
    after_of_writes_sub padOps _ padOps_writes (h _ (by simp only [List.mem_cons, true_or, or_true])),
    after_of_writes_sub rowOps _ rowOps_writes (h _ (by simp only [List.mem_cons, true_or, or_true])),
    after_of_writes_sub moveOps _ moveOps_writes (h _ (by simp only [List.mem_cons, true_or, or_true])),
    after_of_writes_sub wideOps _ wideOps_writes (h _ (by simp only [List.mem_cons, true_or, or_true])),
    after_of_writes_sub stayOps _ stayOps_writes (h _ (by simp only [List.mem_cons, true_or, or_true])),
    after_of_writes_sub indexOps _ indexOps_writes (h _ (by simp only [List.mem_cons, true_or, or_true])),
    after_of_writes_sub digitOps _ digitOps_writes (h _ (by simp only [List.mem_cons, true_or, or_true])),
    after_of_writes_sub clipOps _ clipOps_writes (h _ (by simp only [List.mem_cons, true_or, or_true])),
    after_of_writes_sub normOps _ normOps_writes (h _ (by simp only [List.mem_cons, true_or, or_true]))]

/-- A buffer that no list and no loop writes ends as it began. -/
theorem end_keep (r : Ref sig .tc)
    (h0 : r ∉ startOps_W) (h1 : r ∉ [main_while0c_c_28, main_while0c_v75] ++ frameOps_W ++ crfOps_W)
    (h2 : ∀ W ∈ [normOps_W, clipOps_W, digitOps_W, indexOps_W, stayOps_W, wideOps_W, moveOps_W, rowOps_W, padOps_W, enterOps_W], r ∉ W)
    (h3 : r ∉ [main_while1c_c_28, main_while1c_v75] ++ (stayAtOps_W ++ moveAtOps_W ++ shiftOps_W ++ shiftPadOps_W ++ ctcOps_W))
    (h4 : r ∉ lastOps_W) (h5 : r ∉ pickOps_W) (h6 : r ∉ meanOps_W) :
    atEnd crfLoop ctcLoop preI midI postI m c (Proc.devRef .tc r) = m ((c.tc : Thread nD τ).loc r) := by
  show after meanOps (after pickOps (after lastOps (ctcLoop.out (at₁ crfLoop preI midI m) c))) _ = _
  rw [after_of_writes_sub meanOps _ meanOps_writes h6, after_of_writes_sub pickOps _ pickOps_writes h5,
    after_of_writes_sub lastOps _ lastOps_writes h4, ctc_keep _ _ _ h3]
  show afterL midI (crfLoop.out (at₀ preI m) c) _ = _
  rw [mid_keep _ _ h2, crf_keep _ _ _ h1]
  show after startOps _ _ = _
  rw [after_of_writes_sub startOps _ startOps_writes h0]

/-- The scores as states by predecessors. -/
abbrev byState (x : FVec F S512x32x1280 .f32) : FVec F S512x32x256x5 .f32 := shapeCast S512x32x256x5 x shapeCasts_S512x32x1280_S512x32x256x5

/-- The table of predecessors. -/
abbrev table : IVec S256x5 32 := fun i => lit0 (S256x5.rowMajor i)

/-- The CRF row of zeros. -/
abbrev zeros : FVec F S32x256 .f32 := broadcastInDim S32x256 ![] bcast_S_S32x256 (constant S_ .f32 0x00000000#32)

/-- The CRF row after the first loop. -/
def crfEnd (x : FVec F S512x32x1280 .f32) : FVec F S32x256 .f32 := crfAt (byState x) table zeros 512

/-- The CTC row after the second loop. -/
def ctcEnd (x : FVec F S512x32x1280 .f32) (tg : IVec S32x256 32) : FVec F S32x253 .f32 :=
  ctcAt (stays (normed x (crfEnd x)) (stayCols (digits tg)))
    (padded (moves (normed x (crfEnd x)) (moveCols (moveCol (digits tg))))) row0 512

/-- The loss. -/
def loss (x : FVec F S512x32x1280 .f32) (tg : IVec S32x256 32) (len : IVec S32 32) : FVec F S_ .f32 :=
  mean (picked (ctcEnd x tg) (lastPlace len)) len

/-- The first loop leaves the CRF row. -/
theorem crf_end (x : FVec F S512x32x1280 .f32) (hx : m ((c.tc : Thread nD τ).loc main_arg0) = x) :
    crfLoop.out (at₀ preI m) c (Proc.devRef .tc main_v2_3) = crfEnd x := by
  show after crfCond (atTrip crfCond [frameOps, crfOps] (at₀ preI m) 512 c) _ = _
  rw [crfCond_keep _ _ (by decide), (crf_trips (at₀ preI m) c (start_time _) 512).2.2.2]
  rw [at_first, start_scores, start_preds, start_row]
  show crfAt (byState (m ((c.tc : Thread nD τ).loc main_arg0))) table zeros 512 = _
  rw [hx, crfEnd]

/-- What the lists between the loops leave for the second, from what they find. -/
theorem mid_out (X : Valuation τ sig (Elt F)) :
    afterL midI X (Proc.devRef .tc main_v64_0)
        = stays (normed (X (Proc.devRef .tc main_arg0)) (X (Proc.devRef .tc main_v2_3))) (stayCols (digits (X (Proc.devRef .tc main_arg1))))
    ∧ afterL midI X (Proc.devRef .tc main_v64_1)
        = padded (moves (normed (X (Proc.devRef .tc main_arg0)) (X (Proc.devRef .tc main_v2_3))) (moveCols (moveCol (digits (X (Proc.devRef .tc main_arg1))))))
    ∧ afterL midI X (Proc.devRef .tc main_v64_3) = row0
    ∧ afterL midI X (Proc.devRef .tc main_v58)
        = subi (addi (X (Proc.devRef .tc main_arg2) : IVec S32 32) (broadcastInDim S32 ![] bcast_S_S32 (constantI S_ 32 1#32)))
          (broadcastInDim S32 ![] bcast_S_S32 (constantI S_ 32 4#32)) := by
  have hd : after clipOps (after normOps X) (Proc.devRef .tc main_v24) = digits (X (Proc.devRef .tc main_arg1)) := by
    rw [clip_out, norm_zero, norm_targets, digits]
  refine ⟨?_, ?_, ?_, ?_⟩
  · rw [mid_lists, enter_stay, after_of_writes_sub padOps _ padOps_writes (by decide +kernel), after_of_writes_sub rowOps _ rowOps_writes (by decide +kernel),
      after_of_writes_sub moveOps _ moveOps_writes (by decide +kernel), after_of_writes_sub wideOps _ wideOps_writes (by decide +kernel),
      stay_out, index_stay, hd, after_of_writes_sub indexOps _ indexOps_writes (by decide +kernel),
      after_of_writes_sub digitOps _ digitOps_writes (by decide +kernel), after_of_writes_sub clipOps _ clipOps_writes (by decide +kernel), norm_scores]
  · rw [mid_lists, enter_move, pad_out, move_out, wide_out, after_of_writes_sub stayOps (r := main_v48) _ stayOps_writes (by decide +kernel), index_move, hd,
      after_of_writes_sub wideOps _ wideOps_writes (by decide +kernel), after_of_writes_sub stayOps _ stayOps_writes (by decide +kernel),
      after_of_writes_sub indexOps _ indexOps_writes (by decide +kernel),
      after_of_writes_sub digitOps _ digitOps_writes (by decide +kernel), after_of_writes_sub clipOps _ clipOps_writes (by decide +kernel), norm_scores]
  · rw [mid_lists, enter_row, after_of_writes_sub padOps _ padOps_writes (by decide +kernel), row_first]
  · rw [mid_lists, after_of_writes_sub enterOps _ enterOps_writes (by decide +kernel), after_of_writes_sub padOps _ padOps_writes (by decide +kernel), row_lengths,
      after_of_writes_sub moveOps _ moveOps_writes (by decide +kernel), after_of_writes_sub wideOps _ wideOps_writes (by decide +kernel),
      after_of_writes_sub stayOps _ stayOps_writes (by decide +kernel), after_of_writes_sub indexOps _ indexOps_writes (by decide +kernel),
      after_of_writes_sub digitOps _ digitOps_writes (by decide +kernel), after_of_writes_sub clipOps _ clipOps_writes (by decide +kernel),
      after_of_writes_sub normOps _ normOps_writes (by decide +kernel)]

/-- A buffer untouched up to the end of the first loop. -/
theorem first_keep (r : Ref sig .tc) (h0 : r ∉ startOps_W) (h1 : r ∉ [main_while0c_c_28, main_while0c_v75] ++ frameOps_W ++ crfOps_W) :
    crfLoop.out (at₀ preI m) c (Proc.devRef .tc r) = m ((c.tc : Thread nD τ).loc r) := by
  rw [crf_keep _ _ _ h1]
  show after startOps _ _ = _
  rw [after_of_writes_sub startOps _ startOps_writes h0]

/-- The result ends at the loss. -/
theorem result_end (x : FVec F S512x32x1280 .f32) (tg : IVec S32x256 32) (len : IVec S32 32)
    (hx : m ((c.tc : Thread nD τ).loc main_arg0) = x) (htg : m ((c.tc : Thread nD τ).loc main_arg1) = tg)
    (hlen : m ((c.tc : Thread nD τ).loc main_arg2) = len) :
    atEnd crfLoop ctcLoop preI midI postI m c (Proc.devRef .tc main_v74) = loss x tg len := by
  obtain ⟨h0, h1, h3, h4⟩ := mid_out (crfLoop.out (at₀ preI m) c)
  rw [crf_end c m x hx, first_keep c m main_arg0 (by decide +kernel) (by decide +kernel), hx,
    first_keep c m main_arg1 (by decide +kernel) (by decide +kernel), htg] at h0 h1
  rw [first_keep c m main_arg2 (by decide +kernel) (by decide +kernel), hlen] at h4
  have hend : ctcLoop.out (at₁ crfLoop preI midI m) c (Proc.devRef .tc main_v64_3) = ctcEnd x tg := by
    show after ctcCond (atTrip ctcCond [stayAtOps, moveAtOps, shiftOps, shiftPadOps, ctcOps] (at₁ crfLoop preI midI m) 512 c) _ = _
    rw [ctcCond_keep _ _ (by decide), (ctc_trips (at₁ crfLoop preI midI m) c (by rw [at_second, mid_lists, enter_time]) 512).2.2.2]
    rw [at_second, h0, h1, h3, ctcEnd]
  have hlast : ctcLoop.out (at₁ crfLoop preI midI m) c (Proc.devRef .tc main_v58) = _ :=
    (ctc_keep _ _ _ (by decide +kernel)).trans h4
  have hl : ctcLoop.out (at₁ crfLoop preI midI m) c (Proc.devRef .tc main_arg2) = len := by
    rw [ctc_keep _ _ _ (by decide +kernel)]
    show afterL midI (crfLoop.out (at₀ preI m) c) _ = _
    rw [mid_keep _ _ (by decide +kernel), first_keep c m main_arg2 (by decide +kernel) (by decide +kernel), hlen]
  rw [at_end, mean_out, pick_out, last_out, hlast, after_of_writes_sub lastOps (r := main_v64_3) _ lastOps_writes (by decide +kernel), hend,
    after_of_writes_sub pickOps _ pickOps_writes (by decide +kernel), after_of_writes_sub lastOps _ lastOps_writes (by decide +kernel), hl, loss, lastPlace]

/-- Every weakly fair run ends with the result at the loss, the arguments as they were, and no semaphore raised. -/
theorem run : θ_run (defs (F := F)) (onTc (τ := τ) (main (F := F))) ⟨m, fun _ => 0, ρ⟩
    (fun r => (∀ c : Dev nD, r.2.mem ((c.tc : Thread nD τ).loc main_v74)
          = loss (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) := by
  refine (θ_run (defs (F := F)) _ _).mono (fun r h => ?_) (run_all m ρ)
  refine ⟨fun c => ⟨?_, ?_, ?_, ?_⟩, sem_eq_zero_of_no_sems rfl r.2⟩
  · exact (h c main_v74 rfl).trans (result_end c m _ _ _ rfl rfl rfl)
  · exact (h c main_arg0 rfl).trans (end_keep c m main_arg0 (by decide +kernel) (by decide +kernel) (by decide +kernel) (by decide +kernel) (by decide +kernel) (by decide +kernel) (by decide +kernel))
  · exact (h c main_arg1 rfl).trans (end_keep c m main_arg1 (by decide +kernel) (by decide +kernel) (by decide +kernel) (by decide +kernel) (by decide +kernel) (by decide +kernel) (by decide +kernel))
  · exact (h c main_arg2 rfl).trans (end_keep c m main_arg2 (by decide +kernel) (by decide +kernel) (by decide +kernel) (by decide +kernel) (by decide +kernel) (by decide +kernel) (by decide +kernel))

end Cert.ReferenceIdeal.Gen.Ref
-- ==== Proof.Ref.Gather.lean ====
/- The reference's gathers, read at one place: where the index word names a place inside the axis, the gather reads the
   operand there. -/
module

public import proofs.«01_k».proof.Proof.Ref.Vals
public import Idealize.ShloMosaic.Lib.Pointwise
public import Idealize.ShloMosaic.Lib.WordCmp
public import Idealize.ShloMosaic.Lib.StableHlo.Predicate

@[expose] public section

noncomputable section

namespace Cert.ReferenceIdeal.Gen.Ref

open Idealize.ShloMosaic Idealize.ShloMosaic.WordCmp Idealize.SL.Sem

/-- A small word, read signed and cut to an axis that holds it. -/
theorem cut_word (k N : ℕ) (hk : k < N) (hN : N ≤ 1280) : min (BitVec.ofNat 32 k).toInt.toNat (N - 1) = k := by
  rw [StableHlo.Predicate.toInt_ofNat_small _ (by omega)]
  omega

/-- The gather of a state's predecessors. -/
theorem gather_preds {α : Type} (x : S32x256.Idx → α) (c : IVec S256x5x1 32) (n : Fin 32) (s : Fin 256) (j : Fin 5) (k : Fin 256)
    (h : c (ix3 s j 0) = BitVec.ofNat 32 k.val) :
    Host.gather gather_S32x256_S256x5x1_S32x256x5_0_1_n_n_1_2_321 x c (ix3 n s j) = x (ix2 n k) := by
  unfold Host.gather
  refine congrArg x (funext fun a => Fin.ext ?_)
  match a with
  | ⟨0, _⟩ =>
    show 0 + 0 + n.val = n.val
    omega
  | ⟨1, _⟩ =>
    have hsi : gather_S32x256_S256x5x1_S32x256x5_0_1_n_n_1_2_321.siIdx (ix3 n s j) ⟨0, by decide⟩ = ix3 s j 0 := by
      funext b
      match b with
      | ⟨0, _⟩ => rfl
      | ⟨1, _⟩ => rfl
      | ⟨2, _⟩ => rfl
    show min (c (gather_S32x256_S256x5x1_S32x256x5_0_1_n_n_1_2_321.siIdx (ix3 n s j) ⟨0, by decide⟩)).toInt.toNat (256 - 1) + 0 + 0 = k.val
    rw [hsi, h]
    exact cut_word k 256 k.isLt (by decide)

/-- The dimension numbers of a gather along the scores' last axis at `W` places. -/
abbrev alongDims (W : ℕ) (wf : GatherDims.WF S512x32x1280 (⟨4, ![512, 32, W, 1]⟩ : Shape) (⟨3, ![512, 32, W]⟩ : Shape) [] [2] [0, 1] [2] [0, 1] 3
    ![1, 1, 1]) : GatherDims S512x32x1280 (⟨4, ![512, 32, W, 1]⟩ : Shape) (⟨3, ![512, 32, W]⟩ : Shape) where
  offsetDims := []
  collapsedSliceDims := [2]
  operandBatchingDims := [0, 1]
  startIndicesBatchingDims := [0, 1]
  startIndexMap := [2]
  indexVectorDim := 3
  sliceSizes := ![1, 1, 1]
  wf := wf

/-- A gather along the scores' last axis reads the column that each place names. -/
theorem gather_along {α : Type} {W : ℕ} (wf) (x : S512x32x1280.Idx → α) (c : IVec (⟨4, ![512, 32, W, 1]⟩ : Shape) 32) (t : Fin 512) (n : Fin 32)
    (l : Fin W) (k : Fin 1280) (h : c (ix4 t n l 0) = BitVec.ofNat 32 k.val) :
    Host.gather (alongDims W wf) x c (ix3 t n l) = x (ix3 t n k) := by
  unfold Host.gather
  refine congrArg x (funext fun a => Fin.ext ?_)
  match a with
  | ⟨0, _⟩ =>
    show 0 + t.val + 0 = t.val
    omega
  | ⟨1, _⟩ =>
    show 0 + n.val + 0 = n.val
    omega
  | ⟨2, _⟩ =>
    have hsi : (alongDims W wf).siIdx (ix3 t n l) ⟨0, Nat.one_pos⟩ = ix4 t n l 0 := by
      funext b
      match b with
      | ⟨0, _⟩ => rfl
      | ⟨1, _⟩ => rfl
      | ⟨2, _⟩ => rfl
      | ⟨3, _⟩ => rfl
    show min (c ((alongDims W wf).siIdx (ix3 t n l) ⟨0, Nat.one_pos⟩)).toInt.toNat (1280 - 1) + 0 + 0 = k.val
    rw [hsi, h]
    exact cut_word k 1280 k.isLt (by decide)

/-- The gather of the scores of staying. -/
theorem gather_stays {α : Type} (x : S512x32x1280.Idx → α) (c : IVec S512x32x253x1 32) (t : Fin 512) (n : Fin 32) (l : Fin 253) (k : Fin 1280)
    (h : c (ix4 t n l 0) = BitVec.ofNat 32 k.val) :
    Host.gather gather_S512x32x1280_S512x32x253x1_S512x32x253_n_2_01_01_2_3_111 x c (ix3 t n l) = x (ix3 t n k) :=
  gather_along _ x c t n l k h

/-- The gather of the scores of moving. -/
theorem gather_moves {α : Type} (x : S512x32x1280.Idx → α) (c : IVec S512x32x252x1 32) (t : Fin 512) (n : Fin 32) (l : Fin 252) (k : Fin 1280)
    (h : c (ix4 t n l 0) = BitVec.ofNat 32 k.val) :
    Host.gather gather_S512x32x1280_S512x32x252x1_S512x32x252_n_2_01_01_2_3_111 x c (ix3 t n l) = x (ix3 t n k) :=
  gather_along _ x c t n l k h

/-- The gather of the last places. -/
theorem gather_last {α : Type} (x : S32x253.Idx → α) (c : IVec S32x1x1 32) (n : Fin 32) (k : Fin 253)
    (h : c (ix3 n 0 0) = BitVec.ofNat 32 k.val) :
    Host.gather gather_S32x253_S32x1x1_S32x1_n_1_0_0_1_2_11 x c (ix2 n 0) = x (ix2 n k) := by
  unfold Host.gather
  refine congrArg x (funext fun a => Fin.ext ?_)
  match a with
  | ⟨0, _⟩ =>
    show 0 + n.val + 0 = n.val
    omega
  | ⟨1, _⟩ =>
    have hsi : gather_S32x253_S32x1x1_S32x1_n_1_0_0_1_2_11.siIdx (ix2 n 0) ⟨0, by decide⟩ = ix3 n 0 0 := by
      funext b
      match b with
      | ⟨0, _⟩ => rfl
      | ⟨1, _⟩ => rfl
      | ⟨2, _⟩ => rfl
    show min (c (gather_S32x253_S32x1x1_S32x1_n_1_0_0_1_2_11.siIdx (ix2 n 0) ⟨0, by decide⟩)).toInt.toNat (253 - 1) + 0 + 0 = k.val
    rw [hsi, h]
    exact cut_word k 253 k.isLt (by decide)

end Cert.ReferenceIdeal.Gen.Ref

end
-- ==== Proof.Ref.Read.lean ====
/- The reference's pieces over the extended reals, read at one place. -/
module

public import proofs.«01_k».proof.Proof.Ref.Run
public import proofs.«01_k».proof.Proof.Ref.Gather
public import proofs.«01_k».proof.Proof.Spec.Data
public import proofs.«01_k».proof.Proof.Spec.Fold
public import Idealize.ShloMosaic.Lib.Routing.OpsOne

@[expose] public section

noncomputable section

namespace Cert.ReferenceIdeal.Gen.Ref

open Idealize.ShloMosaic Idealize.ShloMosaic.WordCmp Idealize.SL.Sem

/-! ## The CRF row -/

/-- The shift of each five is a real. -/
theorem top5_real (x : FVec Ideal S32x256x5 .f32) (n : Fin 32) (s : Fin 256) : ∃ r : ℝ, top5 x (ix2 n s) = (r : EReal) := by
  pointwise [top5]
  rw [CrfCtc.bits_top]
  exact CrfCtc.top_real _

/-- The logarithm of the sum of five exponentials of reals. -/
theorem lse5_at (x : FVec Ideal S32x256x5 .f32) (n : Fin 32) (s : Fin 256) (v : Fin 5 → ℝ) (h : ∀ j, x (ix3 n s j) = ((v j : ℝ) : EReal)) :
    lse5 x (ix2 n s) = ((Real.log (∑ j, Real.exp (v j)) : ℝ) : EReal) := by
  obtain ⟨r, hr⟩ := top5_real x n s
  pointwise [lse5]
  simp only [h, hr]
  exact CrfCtc.lse_e v r

/-- The shift of each row is a real. -/
theorem top_real (x : FVec Ideal S32x256 .f32) (n : Fin 32) : ∃ r : ℝ, top x (ix1 n) = (r : EReal) := by
  pointwise [top]
  rw [CrfCtc.bits_top]
  exact CrfCtc.top_real _

/-- The logarithm of the sum of a row's exponentials, where the row is of reals. -/
theorem lse_at (x : FVec Ideal S32x256 .f32) (n : Fin 32) (v : Fin 256 → ℝ) (h : ∀ s, x (ix2 n s) = ((v s : ℝ) : EReal)) :
    lse x (ix1 n) = ((Real.log (∑ s, Real.exp (v s)) : ℝ) : EReal) := by
  obtain ⟨r, hr⟩ := top_real x n
  pointwise [lse]
  simp only [h, hr]
  exact CrfCtc.lse_e v r

/-- The scores less the normaliser's share. -/
theorem normed_at (x : FVec Ideal S512x32x1280 .f32) (a : FVec Ideal S32x256 .f32) (t : Fin 512) (n : Fin 32) (i : Fin 1280) (r z : ℝ)
    (hx : x (ix3 t n i) = (r : EReal)) (hz : lse a (ix1 n) = (z : EReal)) : normed x a (ix3 t n i) = ((r - z / 512 : ℝ) : EReal) := by
  pointwise [normed]
  rw [hx, hz, CrfCtc.bits_512, Ideal.div_coe (by norm_num), ← EReal.coe_mul, ← EReal.coe_sub]
  congr 1
  ring

/-- The word of step `k`, read signed. -/
theorem time_toInt (k : ℕ) (hk : k < 512) (i : S_.Idx) : (time k i).toInt = k := by
  show (Scf.iv 0#32 1#32 k).toInt = k
  rw [show Scf.iv 0#32 1#32 k = BitVec.ofNat 32 k by simp [Scf.iv]]
  exact StableHlo.Predicate.toInt_ofNat_small _ (by omega)

/-- The scores of the step that a counter holds. -/
theorem frame_at (x : FVec Ideal S512x32x256x5 .f32) (i : IVec S_ 32) (k : Fin 512) (hi : ∀ z, (i z).toInt = k.val) (n : Fin 32) (s : Fin 256)
    (j : Fin 5) : frame x i (ix3 n s j) = x (ix4 k n s j) := by
  have hx : ∀ (a a' : Fin 512) (b b' : Fin 32) (c c' : Fin 256) (d d' : Fin 5), a.val = a'.val → b.val = b'.val → c.val = c'.val → d.val = d'.val →
      x (ix4 a b c d) = x (ix4 a' b' c' d') := fun a a' b b' c c' d d' ha hb hc hd => by
    rw [Fin.ext ha, Fin.ext hb, Fin.ext hc, Fin.ext hd]
  let f : Fin 4 → ℤ := fun k => (((![i, constantI S_ 32 0#32, constantI S_ 32 0#32, constantI S_ 32 0#32] : Fin 4 → IVec S_ 32)) k (Shape.Idx.first h_S_)).toInt
  have e0 := Host.clampedStart_of_le (s := S512x32x256x5) (t := S1x32x256x5) rfl f 0 k.val (hi _) (by show k.val + 1 ≤ 512; omega)
  have e1 := Host.clampedStart_of_le (s := S512x32x256x5) (t := S1x32x256x5) rfl f 1 0 rfl (by decide)
  have e2 := Host.clampedStart_of_le (s := S512x32x256x5) (t := S1x32x256x5) rfl f 2 0 rfl (by decide)
  have e3 := Host.clampedStart_of_le (s := S512x32x256x5) (t := S1x32x256x5) rfl f 3 0 rfl (by decide)
  pointwise [frame]
  refine hx _ _ _ _ _ _ _ _ e0 ?_ ?_ ?_
  · exact (congrArg (· + n.val) e1).trans (Nat.zero_add _)
  · exact (congrArg (· + s.val) e2).trans (Nat.zero_add _)
  · exact (congrArg (· + j.val) e3).trans (Nat.zero_add _)

/-- The scores by state and edge. -/
theorem byState_at (x : FVec Ideal S512x32x1280 .f32) (t : Fin 512) (n : Fin 32) (s : Fin 256) (j : Fin 5) :
    byState x (ix4 t n s j) = x (ix3 t n ⟨5 * s.val + j.val, by omega⟩) := by
  pointwise [byState]
  congr 2
  exact Fin.ext (by show s.val * 5 + j.val = 5 * s.val + j.val; omega)

/-- The table of predecessors. -/
theorem table_at (s : Fin 256) (j : Fin 5) : table (ix2 s j) = BitVec.ofNat 32 (CrfCtc.src s j) := by
  have : ∀ s : Fin 256, ∀ j : Fin 5, table (ix2 s j) = BitVec.ofNat 32 (CrfCtc.src s j) := by decide +kernel
  exact this s j

/-- The row at a state's predecessor. -/
theorem preds_at (a : FVec Ideal S32x256 .f32) (n : Fin 32) (s : Fin 256) (j : Fin 5) :
    preds a table (ix3 n s j) = a (ix2 n ⟨CrfCtc.src s j, CrfCtc.src_lt s.isLt j.isLt⟩) := by
  have hs := CrfCtc.src_lt s.isLt j.isLt
  unfold preds
  refine gather_preds a _ n s j ⟨_, hs⟩ ?_
  pointwise
  rw [table_at, cmpi_slt_ofNat (b := 0) (by omega) (by omega)]
  simp only [Nat.not_lt_zero, decide_false, select_ofBool, Bool.false_eq_true, ↓reduceIte]

/-! ## The scores along the targets -/

/-- A fold of bits that are all one. -/
theorem fold_one {ι : Type} (u : Finset ι) (f : ι → BitVec 1) (h : ∀ i, f i = 1#1) : Finset.fold IntOp.andi 1#1 f u = 1#1 := by
  classical
  induction u using Finset.induction_on with
  | empty => rfl
  | insert a t ha ih => rw [Finset.fold_insert ha, ih, h]; rfl

/-- A word inside a row passes both tests. -/
theorem inside_word (k N : ℕ) (hk : k ≤ N) (hN : N < 1280) :
    IntOp.andi (IntOp.cmpi .sge (BitVec.ofNat 32 k) 0#32) (IntOp.cmpi .sle (BitVec.ofNat 32 k) (BitVec.ofNat 32 N)) = 1#1 := by
  rw [cmpi_sge_ofNat (b := 0) (by omega) (by omega), cmpi_sle_ofNat (by omega) (by omega)]
  simp [hk]
  rfl

/-- A column inside the row is not wrapped. -/
theorem wrap253_at (c : IVec S512x32x253 32) (t : Fin 512) (n : Fin 32) (l : Fin 253) (k : Fin 1280) (h : c (ix3 t n l) = BitVec.ofNat 32 k.val) :
    wrap253 c (ix4 t n l 0) = BitVec.ofNat 32 k.val := by
  pointwise [wrap253]
  rw [h, cmpi_slt_ofNat (b := 0) (by omega) (by omega)]
  simp only [Nat.not_lt_zero, decide_false, select_ofBool, Bool.false_eq_true, ↓reduceIte]

/-- The scores read at the columns of staying. -/
theorem stays_at (x : FVec Ideal S512x32x1280 .f32) (c : IVec S512x32x253 32) (t : Fin 512) (n : Fin 32) (l : Fin 253) (k : Fin 1280)
    (h : c (ix3 t n l) = BitVec.ofNat 32 k.val) : stays x c (ix3 t n l) = x (ix3 t n k) := by
  have hw := wrap253_at c t n l k h
  have hi : inside253 (wrap253 c) (ix3 t n l) = 1#1 := by
    pointwise [inside253]
    refine fold_one _ _ fun i => ?_
    obtain rfl : i = 0 := Subsingleton.elim _ _
    rw [hw]
    exact inside_word k 1279 (by omega) (by decide)
  unfold stays
  pointwise
  rw [hi, gather_stays x _ t n l k hw, select_one]

/-- A column inside the row is not wrapped. -/
theorem wrap252_at (c : IVec S512x32x252 32) (t : Fin 512) (n : Fin 32) (l : Fin 252) (k : Fin 1280) (h : c (ix3 t n l) = BitVec.ofNat 32 k.val) :
    wrap252 c (ix4 t n l 0) = BitVec.ofNat 32 k.val := by
  pointwise [wrap252]
  rw [h, cmpi_slt_ofNat (b := 0) (by omega) (by omega)]
  simp only [Nat.not_lt_zero, decide_false, select_ofBool, Bool.false_eq_true, ↓reduceIte]

/-- The scores read at the columns of moving. -/
theorem moves_at (x : FVec Ideal S512x32x1280 .f32) (c : IVec S512x32x252 32) (t : Fin 512) (n : Fin 32) (l : Fin 252) (k : Fin 1280)
    (h : c (ix3 t n l) = BitVec.ofNat 32 k.val) : moves x c (ix3 t n l) = x (ix3 t n k) := by
  have hw := wrap252_at c t n l k h
  have hi : inside252 (wrap252 c) (ix3 t n l) = 1#1 := by
    pointwise [inside252]
    refine fold_one _ _ fun i => ?_
    obtain rfl : i = 0 := Subsingleton.elim _ _
    rw [hw]
    exact inside_word k 1279 (by omega) (by decide)
  unfold moves
  pointwise
  rw [hi, gather_moves x _ t n l k hw, select_one]

/-- Nothing moves into the first place. -/
theorem padded_at (x : FVec Ideal S512x32x252 .f32) (t : Fin 512) (n : Fin 32) (l : Fin 253) :
    padded x (ix3 t n l) = if h : l.val = 0 then ⊥ else x (ix3 t n ⟨l.val - 1, by omega⟩) := by
  pointwise [padded]
  rw [CrfCtc.bits_bot]
  by_cases h : l.val = 0
  · rw [dif_neg (by omega), dif_pos h]
  · rw [dif_pos (by omega), dif_neg h]

/-- The digits at a place. -/
theorem digits_at {f : Fin 512 → Fin 32 → Fin 1280 → EReal} {g : Fin 32 → Fin 256 → BitVec 32} {h : Fin 32 → BitVec 32}
    (D : CrfCtc.Drawn f g h) (tg : IVec S32x256 32) (ht : ∀ n l, tg (ix2 n l) = g n l) (n : Fin 32) (l : Fin 256) :
    digits tg (ix2 n l) = BitVec.ofNat 32 (CrfCtc.digitOf g n l) := by
  pointwise [digits]
  rw [ht]
  exact D.word n l

/-- The column of staying: five times the state. -/
theorem stayCol_at (δ : Fin 32 → ℕ → ℕ) (hδ : ∀ n l, δ n l < 4) (d : IVec S32x256 32)
    (hd : ∀ (n : Fin 32) (l : Fin 256), d (ix2 n l) = BitVec.ofNat 32 (δ n l)) (n : Fin 32) (l : Fin 253) :
    stayCol d (ix2 n l) = BitVec.ofNat 32 (5 * CrfCtc.state (δ n) l) := by
  have hs := CrfCtc.state_lt (hδ n) l
  pointwise [stayCol, high, num253]
  rw [hd, hd, hd, hd]
  simp only [Nat.add_comm _ l.val]
  rw [CrfCtc.state_word (hδ n) l]
  apply BitVec.eq_of_toNat_eq
  simp [IntOp.muli]
  omega

/-- The column of moving: the base before the place, from one, after the column of staying. -/
theorem moveCol_at (δ : Fin 32 → ℕ → ℕ) (hδ : ∀ n l, δ n l < 4) (d : IVec S32x256 32)
    (hd : ∀ (n : Fin 32) (l : Fin 256), d (ix2 n l) = BitVec.ofNat 32 (δ n l)) (n : Fin 32) (l : Fin 252) :
    moveCol d (ix2 n l) = BitVec.ofNat 32 (5 * CrfCtc.state (δ n) (l.val + 1) + (δ n l.val + 1)) := by
  have hs := CrfCtc.state_lt (hδ n) (l.val + 1)
  have h4 := hδ n l.val
  pointwise [moveCol]
  rw [hd, stayCol_at δ hδ d hd]
  simp only [Nat.add_comm 1 l.val]
  apply BitVec.eq_of_toNat_eq
  simp [IntOp.addi]
  omega

/-! ## The CTC row -/

/-- The scores along the targets of the step that a counter holds. -/
theorem row253_at (x : FVec Ideal S512x32x253 .f32) (i : IVec S_ 32) (k : Fin 512) (hi : ∀ z, (i z).toInt = k.val) (n : Fin 32) (l : Fin 253) :
    row253 x i (ix2 n l) = x (ix3 k n l) := by
  have hx : ∀ (a a' : Fin 512) (b b' : Fin 32) (c c' : Fin 253), a.val = a'.val → b.val = b'.val → c.val = c'.val →
      x (ix3 a b c) = x (ix3 a' b' c') := fun a a' b b' c c' ha hb hc => by
    rw [Fin.ext ha, Fin.ext hb, Fin.ext hc]
  let f : Fin 3 → ℤ := fun k => (((![i, constantI S_ 32 0#32, constantI S_ 32 0#32] : Fin 3 → IVec S_ 32)) k (Shape.Idx.first h_S_)).toInt
  have e0 := Host.clampedStart_of_le (s := S512x32x253) (t := S1x32x253) rfl f 0 k.val (hi _) (by show k.val + 1 ≤ 512; omega)
  have e1 := Host.clampedStart_of_le (s := S512x32x253) (t := S1x32x253) rfl f 1 0 rfl (by decide)
  have e2 := Host.clampedStart_of_le (s := S512x32x253) (t := S1x32x253) rfl f 2 0 rfl (by decide)
  pointwise [row253]
  refine hx _ _ _ _ _ _ e0 ?_ ?_
  · exact (congrArg (· + n.val) e1).trans (Nat.zero_add _)
  · exact (congrArg (· + l.val) e2).trans (Nat.zero_add _)

/-- The row one place along. -/
theorem along_at (a : FVec Ideal S32x253 .f32) (n : Fin 32) (l : Fin 253) :
    along a (ix2 n l) = if h : l.val = 0 then ⊥ else a (ix2 n ⟨l.val - 1, by omega⟩) := by
  pointwise [along]
  rw [CrfCtc.bits_bot]
  by_cases h : l.val = 0
  · rw [dif_neg (by omega), dif_pos h]
  · rw [dif_pos (by omega), dif_neg h]

/-- The sum of two weights, under the logarithm. -/
theorem lae_at (x y : FVec Ideal S32x253 .f32) (n : Fin 32) (l : Fin 253) (u v : ℝ) (hu : 0 ≤ u) (hv : 0 ≤ v)
    (hx : x (ix2 n l) = CrfCtc.lgs 1 u) (hy : y (ix2 n l) = CrfCtc.lgs 1 v) : lae x y (ix2 n l) = CrfCtc.lgs 1 (u + v) := by
  pointwise [lae]
  rw [if_neg (by simp), hx, hy]
  exact CrfCtc.lae_lgs u v hu hv

/-- The row that the second loop starts from: all weight at the first place. -/
theorem row0_at (n : Fin 32) (l : Fin 253) : (row0 (F := Ideal)) (ix2 n l) = if l.val = 0 then 0 else ⊥ := by
  let idx : IVec S1 32 := broadcastInDim S1 ![] bcast_S_S1 (constantI S_ 32 0#32)
  let upd : FVec Ideal S32 .f32 := broadcastInDim S32 ![] bcast_S_S32 (constant S_ .f32 0x00000000#32)
  have hu : ∀ j, upd j = 0 := fun j => by
    rw [eq_ix1 j]
    show broadcastInDim S32 ![] bcast_S_S32 (constant (F := Ideal) S_ .f32 0x00000000#32) (ix1 (j 0)) = 0
    pointwise
  have col := fun w' : Fin 32 => Routing.lands_col scatter_S32x253_S1_S32_0_1_1_0 rfl rfl idx (0 : Fin 253) rfl w' n l
  unfold row0
  by_cases h : l.val = 0
  · have hl : l = 0 := Fin.ext h
    have hit := (col n).2 (And.intro rfl hl)
    rw [if_pos h]
    exact Routing.scatter_set_hit scatter_S32x253_S1_S32_0_1_1_0 _ idx upd _ 0 (fun j _ => hu j) (ix1 n) hit
  · have miss : ∀ j, scatter_S32x253_S1_S32_0_1_1_0.resultIdx? j idx ≠ some (ix2 n l) := fun j hj => by
      have at0 := (congrArg (fun t => scatter_S32x253_S1_S32_0_1_1_0.resultIdx? t idx) (eq_ix1 j).symm).trans hj
      have hl : l = 0 := ((col (j 0)).1 at0).2
      rw [hl] at h
      exact h rfl
    rw [if_neg h]
    refine (Routing.scatter_set_miss scatter_S32x253_S1_S32_0_1_1_0 _ idx upd _ miss).trans ?_
    pointwise
    exact CrfCtc.bits_bot

/-! ## The loss -/

/-- The last place. -/
theorem lastPlace_at (len : IVec S32 32) (n : Fin 32) (h4 : 64 ≤ (len (ix1 n)).toNat) (h256 : (len (ix1 n)).toNat ≤ 256) :
    lastPlace len (ix2 n 0) = BitVec.ofNat 32 ((len (ix1 n)).toNat - 4) := by
  pointwise [lastPlace]
  apply BitVec.eq_of_toNat_eq
  simp [IntOp.addi, IntOp.subi]
  omega

/-- The row at the last place. -/
theorem picked_at (a : FVec Ideal S32x253 .f32) (c : IVec S32x1 32) (n : Fin 32) (k : Fin 253) (h : c (ix2 n 0) = BitVec.ofNat 32 k.val) :
    picked a c (ix2 n 0) = a (ix2 n k) := by
  have hw : wrap1 c (ix3 n 0 0) = BitVec.ofNat 32 k.val := by
    pointwise [wrap1]
    rw [h, cmpi_slt_ofNat (b := 0) (by omega) (by omega)]
    simp only [Nat.not_lt_zero, decide_false, select_ofBool, Bool.false_eq_true, ↓reduceIte]
  unfold picked
  pointwise
  rw [gather_last a _ n k hw, fold_one, select_one]
  intro i
  obtain rfl : i = 0 := Subsingleton.elim _ _
  rw [hw]
  exact inside_word k 252 (by omega) (by decide)

end Cert.ReferenceIdeal.Gen.Ref

end
-- ==== Proof.Ref.Forward.lean ====
/- The reference over the extended reals: what each row holds after every step, and the loss at the end. -/
module

public import proofs.«01_k».proof.Proof.Ref.Read

@[expose] public section

noncomputable section

namespace Cert.ReferenceIdeal.Gen.Ref

open Idealize.ShloMosaic Idealize.ShloMosaic.TcCoe Idealize.ShloMosaic.WordCmp Idealize.SL.Sem

section Rows

variable (x : FVec Ideal S512x32x1280 .f32) (tg : IVec S32x256 32) (len : IVec S32 32)

/-- The scores, by step, sequence and edge. -/
abbrev argF (t : Fin 512) (n : Fin 32) (i : Fin 1280) : EReal := x (ix3 t n i)
/-- The bases, by sequence and place. -/
abbrev argG (n : Fin 32) (l : Fin 256) : BitVec 32 := tg (ix2 n l)
/-- The lengths, by sequence. -/
abbrev argH (n : Fin 32) : BitVec 32 := len (ix1 n)

variable (D : CrfCtc.Drawn (argF x) (argG tg) (argH len))

include D in
/-- The CRF row after `k` steps. -/
theorem crf_holds (k : ℕ) (hk : k ≤ 512) (n : Fin 32) (s : Fin 256) :
    crfAt (byState x) table zeros k (ix2 n s) = ((CrfCtc.crf (CrfCtc.scoreOf (argF x) n) k s : ℝ) : EReal) := by
  induction k generalizing n s with
  | zero =>
    unfold crfAt CrfCtc.crf
    pointwise [zeros]
    exact EReal.coe_zero.symm
  | succ k ih =>
    refine lse5_at _ n s (fun j => CrfCtc.scoreOf (argF x) n k (5 * s.val + j.val)
      + CrfCtc.crf (CrfCtc.scoreOf (argF x) n) k (CrfCtc.src s.val j.val)) fun j => ?_
    pointwise
    rw [frame_at _ _ ⟨k, hk⟩ (time_toInt k hk), byState_at, preds_at, ih (by omega), EReal.coe_add]
    exact congrArg (· + _) (D.score ⟨k, hk⟩ n _)

/-- Each step's share of the logarithm of the normaliser. -/
def share (n : Fin 32) : ℝ := CrfCtc.logZ (CrfCtc.scoreOf (argF x) n) / 512

include D in
/-- The normalised scores. -/
theorem normed_row (t : Fin 512) (n : Fin 32) (i : Fin 1280) :
    normed x (crfEnd x) (ix3 t n i) = ((CrfCtc.scoreOf (argF x) n t i - share x n : ℝ) : EReal) :=
  normed_at x _ t n i _ _ (D.score t n i) (lse_at _ n _ fun s => crf_holds x tg len D 512 le_rfl n s)

include D in
/-- The scores of staying. -/
theorem stays_row (t : Fin 512) (n : Fin 32) (l : Fin 253) :
    stays (normed x (crfEnd x)) (stayCols (digits tg)) (ix3 t n l)
      = ((CrfCtc.staying (CrfCtc.scoreOf (argF x) n) (CrfCtc.digitOf (argG tg) n) t l - share x n : ℝ) : EReal) := by
  have hs := CrfCtc.state_lt (D.digit n) l
  rw [stays_at _ _ t n l ⟨5 * CrfCtc.state (CrfCtc.digitOf (argG tg) n) l, by omega⟩, normed_row x tg len D]
  · rfl
  · pointwise [stayCols]
    exact stayCol_at _ D.digit _ (digits_at D tg fun _ _ => rfl) n l

include D in
/-- The scores of moving, nothing at the first place. -/
theorem moves_row (t : Fin 512) (n : Fin 32) (l : Fin 253) :
    padded (moves (normed x (crfEnd x)) (moveCols (moveCol (digits tg)))) (ix3 t n l) = if l.val = 0 then ⊥ else
      ((CrfCtc.moving (CrfCtc.scoreOf (argF x) n) (CrfCtc.digitOf (argG tg) n) t l - share x n : ℝ) : EReal) := by
  rw [padded_at]
  by_cases h : l.val = 0
  · rw [dif_pos h, if_pos h]
  · have hs := CrfCtc.state_lt (D.digit n) l
    have hd := D.digit n (l.val - 1)
    rw [dif_neg h, if_neg h, moves_at _ _ t n _ ⟨5 * CrfCtc.state (CrfCtc.digitOf (argG tg) n) l
      + (CrfCtc.digitOf (argG tg) n (l.val - 1) + 1), by omega⟩, normed_row x tg len D]
    · rfl
    · pointwise [moveCols]
      rw [moveCol_at _ D.digit _ (digits_at D tg fun _ _ => rfl)]
      simp only [Nat.sub_add_cancel (Nat.pos_of_ne_zero h)]

include D in
/-- The CTC row after `k` steps: the logarithms of the weights. -/
theorem ctc_holds (k : ℕ) (hk : k ≤ 512) (n : Fin 32) (l : Fin 253) :
    ctcAt (stays (normed x (crfEnd x)) (stayCols (digits tg))) (padded (moves (normed x (crfEnd x)) (moveCols (moveCol (digits tg))))) row0 k
        (ix2 n l)
      = CrfCtc.lgs 1 (CrfCtc.weight
          (fun t l => CrfCtc.staying (CrfCtc.scoreOf (argF x) n) (CrfCtc.digitOf (argG tg) n) t l - share x n)
          (fun t l => CrfCtc.moving (CrfCtc.scoreOf (argF x) n) (CrfCtc.digitOf (argG tg) n) t l - share x n) k l) := by
  induction k generalizing n l with
  | zero =>
    unfold ctcAt CrfCtc.weight
    rw [row0_at]
    by_cases h : l.val = 0
    · rw [if_pos h, if_pos h, CrfCtc.lgs_one]
    · rw [if_neg h, if_neg h, CrfCtc.lgs_zero]
  | succ k ih =>
    have step : ∀ (w r : ℝ), 0 ≤ w → CrfCtc.lgs 1 w + ((r : ℝ) : EReal) = CrfCtc.lgs 1 (w * Real.exp r) := fun w r hw => by
      have := CrfCtc.lgs_add 1 w r hw
      rwa [one_mul] at this
    have pos := fun l => CrfCtc.weight_nonneg
      (fun t l => CrfCtc.staying (CrfCtc.scoreOf (argF x) n) (CrfCtc.digitOf (argG tg) n) t l - share x n)
      (fun t l => CrfCtc.moving (CrfCtc.scoreOf (argF x) n) (CrfCtc.digitOf (argG tg) n) t l - share x n) k l
    unfold ctcAt CrfCtc.weight
    refine lae_at _ _ n l _ _ (mul_nonneg (pos _) (Real.exp_pos _).le) ?_ ?_ ?_
    · split
      · exact le_rfl
      · exact mul_nonneg (pos _) (Real.exp_pos _).le
    · pointwise
      rw [ih (by omega), row253_at _ _ ⟨k, hk⟩ (time_toInt k hk), stays_row x tg len D]
      exact step _ _ (pos _)
    · pointwise
      rw [row253_at _ _ ⟨k, hk⟩ (time_toInt k hk), moves_row x tg len D, along_at]
      by_cases h : l.val = 0
      · rw [dif_pos h, if_pos h, if_pos h, CrfCtc.lgs_zero, EReal.bot_add]
      · rw [dif_neg h, if_neg h, if_neg h, ih (by omega)]
        exact step _ _ (pos _)

include D in
/-- The CTC row after all 512 steps, at the target's last place. -/
theorem last_holds (n : Fin 32) (h : CrfCtc.lengthOf (argH len) n - 4 < 253) : ctcEnd x tg (ix2 n ⟨CrfCtc.lengthOf (argH len) n - 4, h⟩)
    = CrfCtc.lgs 1 (CrfCtc.pathWeight (CrfCtc.scoreOf (argF x) n) (CrfCtc.digitOf (argG tg) n) (CrfCtc.lengthOf (argH len) n))
      - ((CrfCtc.logZ (CrfCtc.scoreOf (argF x) n) : ℝ) : EReal) := by
  unfold ctcEnd
  rw [ctc_holds x tg len D 512 le_rfl n]
  exact CrfCtc.normed_weight _ _ _

/-- A negated quotient is the quotient of the negated value. -/
theorem neg_div (y : EReal) (n : ℝ) (hn : n ≠ 0) : -Ideal.div y (n : EReal) = Ideal.div (0 - y) (n : EReal) := by
  rw [Ideal.div_coe hn, Ideal.div_coe hn, zero_sub, EReal.neg_mul]

include D in
/-- The reference's loss is the mean loss. -/
theorem loss_eq : loss x tg len = (fun _ => CrfCtc.meanLoss (CrfCtc.scoreOf (argF x)) (CrfCtc.digitOf (argG tg)) (CrfCtc.lengthOf (argH len))) := by
  funext i
  unfold loss
  pointwise [mean]
  unfold CrfCtc.meanLoss
  rw [CrfCtc.bits_32]
  congr 1
  refine Finset.sum_congr rfl fun n _ => ?_
  have hl := D.lengths n
  have e : len (ix1 n) = BitVec.ofNat 32 (CrfCtc.lengthOf (argH len) n) := by
    apply BitVec.eq_of_toNat_eq
    unfold CrfCtc.lengthOf
    simp
  rw [picked_at _ _ n ⟨CrfCtc.lengthOf (argH len) n - 4, by have := hl.2; unfold CrfCtc.lengthOf; omega⟩ (lastPlace_at len n hl.1 hl.2), e,
    CrfCtc.sitofp_ofNat _ (by have := hl.2; unfold CrfCtc.lengthOf; omega), neg_div]
  · rw [last_holds x tg len D]
    unfold CrfCtc.seqLoss
    rfl
  · have : 0 < CrfCtc.lengthOf (argH len) n := by have := hl.1; unfold CrfCtc.lengthOf; omega
    exact_mod_cast this.ne'

end Rows

end Cert.ReferenceIdeal.Gen.Ref

end
-- ==== Proof.Spec.Pre.lean ====
/- What the precondition says of the arguments: finite scores, bases from 0 to 4, lengths from 64 to 256. -/
module

public import proofs.«01_k».proof.Pre_drawn
public import proofs.«01_k».proof.Proof.Spec.Data
public import proofs.«01_k».proof.Proof.Spec.Fold
public import Idealize.ShloMosaic.Lib.Pointwise
public import Idealize.ShloMosaic.Lib.StableHlo.Predicate

@[expose] public section

noncomputable section

namespace Cert.CrfCtc

open Idealize.ShloMosaic

variable [Cert.Pre_drawn.Facts] (x : FVec Ideal ⟨3, ![512, 32, 1280]⟩ .f32) (tg : IVec ⟨2, ![32, 256]⟩ 32) (len : IVec ⟨1, ![32]⟩ 32)

/-- A bit that is one is the bit of a true statement. -/
theorem of_bit {p : Bool} (h : BitVec.ofBool p = 1#1) : p = true := by
  cases p <;> simp_all

/-- Two bits whose conjunction is one are both one. -/
theorem of_andi {a b : BitVec 1} (h : IntOp.andi a b = 1#1) : a = 1#1 ∧ b = 1#1 := by
  revert a b
  decide

/-- A word at least `lo` and below `hi`, both read signed, is so read unsigned. -/
theorem between_lt (w : BitVec 32) (lo hi : ℕ) (hlo : lo < 2 ^ 31) (hhi : hi < 2 ^ 31)
    (h : IntOp.andi (IntOp.cmpi .sge w (BitVec.ofNat 32 lo)) (IntOp.cmpi .slt w (BitVec.ofNat 32 hi)) = 1#1) :
    lo ≤ w.toNat ∧ w.toNat < hi := by
  obtain ⟨h1, h2⟩ := of_andi h
  have h1 := of_bit h1
  have h2 := of_bit h2
  simp only [BitVec.sle, BitVec.slt, decide_eq_true_eq, StableHlo.Predicate.toInt_ofNat_small _ hlo, StableHlo.Predicate.toInt_ofNat_small _ hhi,
    BitVec.toInt_eq_toNat_cond] at h1 h2
  split at h1 <;> omega

/-- A word at least `lo` and at most `hi`, both read signed, is so read unsigned. -/
theorem between_le (w : BitVec 32) (lo hi : ℕ) (hlo : lo < 2 ^ 31) (hhi : hi < 2 ^ 31)
    (h : IntOp.andi (IntOp.cmpi .sge w (BitVec.ofNat 32 lo)) (IntOp.cmpi .sle w (BitVec.ofNat 32 hi)) = 1#1) :
    lo ≤ w.toNat ∧ w.toNat ≤ hi := by
  obtain ⟨h1, h2⟩ := of_andi h
  have h1 := of_bit h1
  have h2 := of_bit h2
  simp only [BitVec.sle, decide_eq_true_eq, StableHlo.Predicate.toInt_ofNat_small _ hlo, StableHlo.Predicate.toInt_ofNat_small _ hhi,
    BitVec.toInt_eq_toNat_cond] at h1 h2
  split at h1 <;> omega

/-- The precondition's three arrays of bits are all one only on arguments as drawn. -/
theorem drawn_of (h0 : (Cert.Pre_drawn.fn x tg len).1 = fun _ => 1#1) (h1 : (Cert.Pre_drawn.fn x tg len).2.1 = fun _ => 1#1)
    (h2 : (Cert.Pre_drawn.fn x tg len).2.2 = fun _ => 1#1) :
    Drawn (fun t n i => x (ix3 t n i)) (fun n l => tg (ix2 n l)) (fun n => len (ix1 n)) where
  finite t n i := by
    have h := congrFun h0 (ix3 t n i)
    unfold Cert.Pre_drawn.fn at h
    pointwise at h
    have h := of_decide_eq_true (of_bit h)
    rw [bits_top] at h
    exact h
  bases n l := by
    have h := congrFun h1 (ix2 n l)
    unfold Cert.Pre_drawn.fn at h
    pointwise at h
    exact (between_lt _ 0 5 (by decide) (by decide) h).2
  lengths n := by
    have h := congrFun h2 (ix1 n)
    unfold Cert.Pre_drawn.fn at h
    pointwise at h
    exact between_le _ 64 256 (by decide) (by decide) h

end Cert.CrfCtc

end
-- ==== Proof.lean ====
/- The claims of the CRF-CTC loss kernel: the frames of the kernel as printed, of its idealization and of the reference's,
   the constants that are given names, and that kernel and reference compute one loss. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Run
public import proofs.«01_k».proof.Proof.Gen.ReferenceIdeal
public import proofs.«01_k».proof.Proof.Gen.Pre_drawn
public import proofs.«01_k».proof.Proof.Crf.Host
public import proofs.«01_k».proof.Proof.Ref.Forward
public import proofs.«01_k».proof.Proof.Spec.Pre

@[expose] public section

noncomputable section

namespace Cert.Proof

open Idealize.ShloMosaic Idealize.SL.Sem

/-- The reference runs, leaves its arguments as they were and no semaphore raised. -/
theorem reference_frame : Cert.quiescent_ReferenceIdeal := fun m ρ _ =>
  (θ_run (Cert.ReferenceIdeal.defs (F := Ideal)) _ _).mono (fun _ h => ⟨fun c => (h.1 c).2, h.2⟩) (Cert.ReferenceIdeal.Gen.Ref.run m ρ)

/-- On arguments as drawn the kernel and the reference both end with the mean loss. -/
theorem same_loss : Cert.algebraic_KernelIdeal_ReferenceIdeal_pre_drawn := fun m ρ m' ρ' pre same => by
  have D : ∀ c, CrfCtc.Drawn (Cert.KernelIdeal.Gen.Step.argF m c) (Cert.KernelIdeal.Gen.Step.argG m c) (Cert.KernelIdeal.Gen.Step.argH m c) :=
    fun c => CrfCtc.drawn_of _ _ _ (pre c).1 (pre c).2.1 (pre c).2.2
  refine ⟨_, Cert.KernelIdeal.Gen.Step.run_mean m ρ D,
    (θ_run (Cert.ReferenceIdeal.defs (F := Ideal)) _ _).mono (fun _ h c => ⟨(h.1 c).1.trans ?_, (h.1 c).2⟩) (Cert.ReferenceIdeal.Gen.Ref.run m' ρ')⟩
  rw [(same c).1, (same c).2.1, (same c).2.2]
  exact Cert.ReferenceIdeal.Gen.Ref.loss_eq _ _ _ (D c)

/-- Every claim. -/
theorem claim : Cert.Claim :=
  ⟨Cert.Kernel.Gen.facts, Cert.KernelIdeal.Gen.facts, Cert.ReferenceIdeal.Gen.facts, Cert.Pre_drawn.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    ⟨IdealRules.named_const.statement Cert.KernelIdeal.κ "neg" .f32 0xFE967699#32 ⊥ rfl,
      IdealRules.named_const.statement Cert.KernelIdeal.κ "log2e" .f32 0x3FB8AA3B#32 (((Real.log 2)⁻¹ : ℝ) : EReal) rfl,
      IdealRules.named_const.statement Cert.KernelIdeal.κ "ln2" .f32 0x3F317218#32 ((Real.log 2 : ℝ) : EReal) rfl⟩,
    same_loss⟩

end Cert.Proof

end
